-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v262) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x256 : Shape := ⟨3, ![32, 1024, 256]⟩
abbrev S256x5 : Shape := ⟨2, ![256, 5]⟩
abbrev S5 : Shape := ⟨1, ![5]⟩
abbrev S5x256 : Shape := ⟨2, ![5, 256]⟩
abbrev S256 : Shape := ⟨1, ![256]⟩
abbrev S1x5 : Shape := ⟨2, ![1, 5]⟩
abbrev S32768x256 : Shape := ⟨2, ![32768, 256]⟩
abbrev S1x256 : Shape := ⟨2, ![1, 256]⟩
abbrev S_ : Shape := ⟨0, ![]⟩
abbrev S4x5 : Shape := ⟨2, ![4, 5]⟩
abbrev S12x5 : Shape := ⟨2, ![12, 5]⟩
abbrev S32768x4 : Shape := ⟨2, ![32768, 4]⟩
abbrev S1024x256 : Shape := ⟨2, ![1024, 256]⟩
abbrev S1024x4 : Shape := ⟨2, ![1024, 4]⟩
abbrev S1024x5 : Shape := ⟨2, ![1024, 5]⟩
abbrev S1024 : Shape := ⟨1, ![1024]⟩
abbrev S1024x1 : Shape := ⟨2, ![1024, 1]⟩
abbrev S32x1024x4 : Shape := ⟨3, ![32, 1024, 4]⟩

abbrev nBuf : Space → Nat
  | .hbm => 69
  | .vmem => 11
  | .smem => 0
  | _ => 0

abbrev bufTy : (tb : Table) → Fin (tcTables nBuf tb) → BufTy
  | .hbm, ⟨0, _⟩ => ⟨S32x1024x256, .f32⟩
  | .hbm, ⟨1, _⟩ => ⟨S256x5, .f32⟩
  | .hbm, ⟨2, _⟩ => ⟨S5, .f32⟩
  | .hbm, ⟨3, _⟩ => ⟨S5x256, .f32⟩
  | .hbm, ⟨4, _⟩ => ⟨S256, .f32⟩
  | .hbm, ⟨5, _⟩ => ⟨S5, .f32⟩
  | .hbm, ⟨6, _⟩ => ⟨S5, .f32⟩
  | .hbm, ⟨7, _⟩ => ⟨S1x5, .f32⟩
  | .hbm, ⟨8, _⟩ => ⟨S5, .f32⟩
  | .hbm, ⟨9, _⟩ => ⟨S1x5, .f32⟩
  | .hbm, ⟨10, _⟩ => ⟨S5, .f32⟩
  | .hbm, ⟨11, _⟩ => ⟨S32768x256, .f32⟩
  | .hbm, ⟨12, _⟩ => ⟨S1x5, .f32⟩
  | .hbm, ⟨13, _⟩ => ⟨S1x256, .f32⟩
  | .hbm, ⟨14, _⟩ => ⟨S_, .f32⟩
  | .hbm, ⟨15, _⟩ => ⟨S5, .f32⟩
  | .hbm, ⟨16, _⟩ => ⟨S5, .f32⟩
  | .hbm, ⟨17, _⟩ => ⟨S_, .f32⟩
  | .hbm, ⟨18, _⟩ => ⟨S5, .f32⟩
  | .hbm, ⟨19, _⟩ => ⟨S5, .f32⟩
  | .hbm, ⟨20, _⟩ => ⟨S_, .f32⟩
  | .hbm, ⟨21, _⟩ => ⟨S5, .f32⟩
  | .hbm, ⟨22, _⟩ => ⟨S5, .f32⟩
  | .hbm, ⟨23, _⟩ => ⟨S_, .f32⟩
  | .hbm, ⟨24, _⟩ => ⟨S5, .f32⟩
  | .hbm, ⟨25, _⟩ => ⟨S5, .f32⟩
  | .hbm, ⟨26, _⟩ => ⟨S5, .f32⟩
  | .hbm, ⟨27, _⟩ => ⟨S_, .f32⟩
  | .hbm, ⟨28, _⟩ => ⟨S5, .f32⟩
  | .hbm, ⟨29, _⟩ => ⟨S5, .f32⟩
  | .hbm, ⟨30, _⟩ => ⟨S_, .f32⟩
  | .hbm, ⟨31, _⟩ => ⟨S5, .f32⟩
  | .hbm, ⟨32, _⟩ => ⟨S5, .f32⟩
  | .hbm, ⟨33, _⟩ => ⟨S_, .f32⟩
  | .hbm, ⟨34, _⟩ => ⟨S5, .f32⟩
  | .hbm, ⟨35, _⟩ => ⟨S5, .f32⟩
  | .hbm, ⟨36, _⟩ => ⟨S_, .f32⟩
  | .hbm, ⟨37, _⟩ => ⟨S5, .f32⟩
  | .hbm, ⟨38, _⟩ => ⟨S5, .f32⟩
  | .hbm, ⟨39, _⟩ => ⟨S_, .f32⟩
  | .hbm, ⟨40, _⟩ => ⟨S5, .f32⟩
  | .hbm, ⟨41, _⟩ => ⟨S5, .f32⟩
  | .hbm, ⟨42, _⟩ => ⟨S_, .f32⟩
  | .hbm, ⟨43, _⟩ => ⟨S5, .f32⟩
  | .hbm, ⟨44, _⟩ => ⟨S5, .f32⟩
  | .hbm, ⟨45, _⟩ => ⟨S_, .f32⟩
  | .hbm, ⟨46, _⟩ => ⟨S5, .f32⟩
  | .hbm, ⟨47, _⟩ => ⟨S5, .f32⟩
  | .hbm, ⟨48, _⟩ => ⟨S_, .f32⟩
  | .hbm, ⟨49, _⟩ => ⟨S5, .f32⟩
  | .hbm, ⟨50, _⟩ => ⟨S5, .f32⟩
  | .hbm, ⟨51, _⟩ => ⟨S1x5, .f32⟩
  | .hbm, ⟨52, _⟩ => ⟨S1x5, .f32⟩
  | .hbm, ⟨53, _⟩ => ⟨S1x5, .f32⟩
  | .hbm, ⟨54, _⟩ => ⟨S1x5, .f32⟩
  | .hbm, ⟨55, _⟩ => ⟨S4x5, .f32⟩
  | .hbm, ⟨56, _⟩ => ⟨S1x5, .f32⟩
  | .hbm, ⟨57, _⟩ => ⟨S1x5, .f32⟩
  | .hbm, ⟨58, _⟩ => ⟨S_, .f32⟩
  | .hbm, ⟨59, _⟩ => ⟨S4x5, .f32⟩
  | .hbm, ⟨60, _⟩ => ⟨S4x5, .f32⟩
  | .hbm, ⟨61, _⟩ => ⟨S1x5, .f32⟩
  | .hbm, ⟨62, _⟩ => ⟨S4x5, .f32⟩
  | .hbm, ⟨63, _⟩ => ⟨S4x5, .f32⟩
  | .hbm, ⟨64, _⟩ => ⟨S12x5, .f32⟩
  | .hbm, ⟨65, _⟩ => ⟨S32768x256, .f32⟩
  | .hbm, ⟨66, _⟩ => ⟨S32768x4, .i32⟩
  | .hbm, ⟨67, _⟩ => ⟨S32x1024x256, .f32⟩
  | .hbm, ⟨68, _⟩ => ⟨S32x1024x4, .i32⟩
  | .local _ .vmem, ⟨0, _⟩ => ⟨S1024x256, .f32⟩
  | .local _ .vmem, ⟨1, _⟩ => ⟨S1024x256, .f32⟩
  | .local _ .vmem, ⟨2, _⟩ => ⟨S256x5, .f32⟩
  | .local _ .vmem, ⟨3, _⟩ => ⟨S1x5, .f32⟩
  | .local _ .vmem, ⟨4, _⟩ => ⟨S5x256, .f32⟩
  | .local _ .vmem, ⟨5, _⟩ => ⟨S1x256, .f32⟩
  | .local _ .vmem, ⟨6, _⟩ => ⟨S12x5, .f32⟩
  | .local _ .vmem, ⟨7, _⟩ => ⟨S1024x256, .f32⟩
  | .local _ .vmem, ⟨8, _⟩ => ⟨S1024x256, .f32⟩
  | .local _ .vmem, ⟨9, _⟩ => ⟨S1024x4, .i32⟩
  | .local _ .vmem, ⟨10, _⟩ => ⟨S1024x4, .i32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_7 : Ref sig .tc := ⟨.hbm, 27, rfl⟩
abbrev main_v14 : Ref sig .tc := ⟨.hbm, 28, rfl⟩
abbrev main_v15 : Ref sig .tc := ⟨.hbm, 29, rfl⟩
abbrev main_cst_8 : Ref sig .tc := ⟨.hbm, 30, rfl⟩
abbrev main_v16 : Ref sig .tc := ⟨.hbm, 31, rfl⟩
abbrev main_v17 : Ref sig .tc := ⟨.hbm, 32, rfl⟩
abbrev main_cst_9 : Ref sig .tc := ⟨.hbm, 33, rfl⟩
abbrev main_v18 : Ref sig .tc := ⟨.hbm, 34, rfl⟩
abbrev main_v19 : Ref sig .tc := ⟨.hbm, 35, rfl⟩
abbrev main_cst_10 : Ref sig .tc := ⟨.hbm, 36, rfl⟩
abbrev main_v20 : Ref sig .tc := ⟨.hbm, 37, rfl⟩
abbrev main_v21 : Ref sig .tc := ⟨.hbm, 38, rfl⟩
abbrev main_cst_11 : Ref sig .tc := ⟨.hbm, 39, rfl⟩
abbrev main_v22 : Ref sig .tc := ⟨.hbm, 40, rfl⟩
abbrev main_v23 : Ref sig .tc := ⟨.hbm, 41, rfl⟩
abbrev main_cst_12 : Ref sig .tc := ⟨.hbm, 42, rfl⟩
abbrev main_v24 : Ref sig .tc := ⟨.hbm, 43, rfl⟩
abbrev main_v25 : Ref sig .tc := ⟨.hbm, 44, rfl⟩
abbrev main_cst_13 : Ref sig .tc := ⟨.hbm, 45, rfl⟩
abbrev main_v26 : Ref sig .tc := ⟨.hbm, 46, rfl⟩
abbrev main_v27 : Ref sig .tc := ⟨.hbm, 47, rfl⟩
abbrev main_cst_14 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_15 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x4 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x1024x256 : Shape := ⟨3, ![32, 1024, 256]⟩
abbrev S256x5 : Shape := ⟨2, ![256, 5]⟩
abbrev S5 : Shape := ⟨1, ![5]⟩
abbrev S5x256 : Shape := ⟨2, ![5, 256]⟩
abbrev S256 : Shape := ⟨1, ![256]⟩
abbrev S32x1024x5 : Shape := ⟨3, ![32, 1024, 5]⟩
abbrev S1x1x5 : Shape := ⟨3, ![1, 1, 5]⟩
abbrev S_ : Shape := ⟨0, ![]⟩
abbrev S1x5 : Shape := ⟨2, ![1, 5]⟩
abbrev S4x5 : Shape := ⟨2, ![4, 5]⟩
abbrev S32x1024 : Shape := ⟨2, ![32, 1024]⟩
abbrev S1x1x256 : Shape := ⟨3, ![1, 1, 256]⟩
abbrev S32x1024x1 : Shape := ⟨3, ![32, 1024, 1]⟩
abbrev S32x1024x4 : Shape := ⟨3, ![32, 1024, 4]⟩

abbrev nBuf : Space → Nat
  | .hbm => 394
  | .vmem => 0
  | .smem => 0
  | _ => 0

abbrev hbmTy0_0 (i : Nat) : BufTy := match i % 128 with
  | 0 => ⟨S32x1024x256, .f32⟩
  | 1 => ⟨S256x5, .f32⟩
  | 2 => ⟨S5, .f32⟩
  | 3 => ⟨S5x256, .f32⟩
  | 4 => ⟨S256, .f32⟩
  | 5 => ⟨S5, .f32⟩
  | 6 => ⟨S5, .f32⟩
  | 7 => ⟨S5, .f32⟩
  | 8 => ⟨S5, .f32⟩
  | 9 => ⟨S5, .f32⟩
  | 10 => ⟨S32x1024x5, .f32⟩
  | 11 => ⟨S1x1x5, .f32⟩
  | 12 => ⟨S32x1024x5, .f32⟩
  | 13 => ⟨S32x1024x5, .f32⟩
  | 14 => ⟨S_, .f32⟩
  | 15 => ⟨S5, .f32⟩
  | 16 => ⟨S5, .f32⟩
  | 17 => ⟨S_, .f32⟩
  | 18 => ⟨S5, .f32⟩
  | 19 => ⟨S5, .f32⟩
  | 20 => ⟨S_, .f32⟩
  | 21 => ⟨S5, .f32⟩
  | 22 => ⟨S5, .f32⟩
  | 23 => ⟨S_, .f32⟩
  | 24 => ⟨S5, .f32⟩
  | 25 => ⟨S5, .f32⟩
  | 26 => ⟨S_, .f32⟩
  | 27 => ⟨S5, .f32⟩
  | 28 => ⟨S5, .f32⟩
  | 29 => ⟨S_, .f32⟩
  | 30 => ⟨S5, .f32⟩
  | 31 => ⟨S5, .f32⟩
  | 32 => ⟨S_, .f32⟩
  | 33 => ⟨S5, .f32⟩
  | 34 => ⟨S5, .f32⟩
  | 35 => ⟨S_, .f32⟩
  | 36 => ⟨S5, .f32⟩
  | 37 => ⟨S5, .f32⟩
  | 38 => ⟨S1x5, .f32⟩
  | 39 => ⟨S1x5, .f32⟩
  | 40 => ⟨S1x5, .f32⟩
  | 41 => ⟨S1x5, .f32⟩
  | 42 => ⟨S4x5, .f32⟩
  | 43 => ⟨S_, .f32⟩
  | 44 => ⟨S32x1024x5, .f32⟩
  | 45 => ⟨S1x5, .f32⟩
  | 46 => ⟨S5, .f32⟩
  | 47 => ⟨S1x1x5, .f32⟩
  | 48 => ⟨S32x1024x5, .f32⟩
  | 49 => ⟨S32x1024x5, .f32⟩
  | 50 => ⟨S_, .f32⟩
  | 51 => ⟨S5, .f32⟩
  | 52 => ⟨S5, .f32⟩
  | 53 => ⟨S5, .f32⟩
  | 54 => ⟨S_, .f32⟩
  | 55 => ⟨S5, .f32⟩
  | 56 => ⟨S5, .f32⟩
  | 57 => ⟨S_, .f32⟩
  | 58 => ⟨S5, .f32⟩
  | 59 => ⟨S5, .f32⟩
  | 60 => ⟨S_, .f32⟩
  | 61 => ⟨S5, .f32⟩
  | 62 => ⟨S5, .f32⟩
  | 63 => ⟨S_, .f32⟩
  | 64 => ⟨S_, .f32⟩
  | 65 => ⟨S5, .f32⟩
  | 66 => ⟨S5, .f32⟩
  | 67 => ⟨S_, .f32⟩
  | 68 => ⟨S5, .f32⟩
  | 69 => ⟨S5, .i1⟩
  | 70 => ⟨S_, .f32⟩
  | 71 => ⟨S5, .f32⟩
  | 72 => ⟨S5, .i1⟩
  | 73 => ⟨S_, .f32⟩
  | 74 => ⟨S_, .i1⟩
  | 75 => ⟨S5, .i1⟩
  | 76 => ⟨S5, .i1⟩
  | 77 => ⟨S5, .i1⟩
  | 78 => ⟨S5, .f32⟩
  | 79 => ⟨S5, .f32⟩
  | 80 => ⟨S5, .f32⟩
  | 81 => ⟨S_, .f32⟩
  | 82 => ⟨S5, .f32⟩
  | 83 => ⟨S5, .i1⟩
  | 84 => ⟨S_, .f32⟩
  | 85 => ⟨S_, .f32⟩
  | 86 => ⟨S5, .f32⟩
  | 87 => ⟨S5, .f32⟩
  | 88 => ⟨S5, .f32⟩
  | 89 => ⟨S5, .f32⟩
  | 90 => ⟨S5, .f32⟩
  | 91 => ⟨S5, .f32⟩
  | 92 => ⟨S1x1x5, .f32⟩
  | 93 => ⟨S32x1024x5, .f32⟩
  | 94 => ⟨S32x1024x5, .f32⟩
  | 95 => ⟨S32x1024x5, .f32⟩
  | 96 => ⟨S1x1x5, .f32⟩
  | 97 => ⟨S32x1024x5, .f32⟩
  | 98 => ⟨S32x1024x5, .f32⟩
  | 99 => ⟨S5, .f32⟩
  | 100 => ⟨S1x1x5, .f32⟩
  | 101 => ⟨S32x1024x5, .f32⟩
  | 102 => ⟨S32x1024x5, .f32⟩
  | 103 => ⟨S32x1024x5, .f32⟩
  | 104 => ⟨S32x1024x5, .f32⟩
  | 105 => ⟨S32x1024x5, .f32⟩
  | 106 => ⟨S1x1x5, .f32⟩
  | 107 => ⟨S32x1024x5, .f32⟩
  | 108 => ⟨S32x1024x5, .f32⟩
  | 109 => ⟨S_, .f32⟩
  | 110 => ⟨S5, .f32⟩
  | 111 => ⟨S5, .f32⟩
  | 112 => ⟨S5, .f32⟩
  | 113 => ⟨S1x1x5, .f32⟩
  | 114 => ⟨S32x1024x5, .f32⟩
  | 115 => ⟨S32x1024x5, .f32⟩
  | 116 => ⟨S1x1x5, .f32⟩
  | 117 => ⟨S32x1024x5, .f32⟩
  | 118 => ⟨S32x1024x5, .f32⟩
  | 119 => ⟨S1x1x5, .f32⟩
  | 120 => ⟨S32x1024x5, .f32⟩
  | 121 => ⟨S32x1024x5, .f32⟩
  | 122 => ⟨S_, .f32⟩
  | 123 => ⟨S32x1024, .f32⟩
  | 124 => ⟨S32x1024, .i32⟩
  | 125 => ⟨S1x1x5, .f32⟩
  | 126 => ⟨S32x1024x5, .f32⟩
  | 127 => ⟨S32x1024x5, .f32⟩
  | _ => ⟨S32x1024x256, .f32⟩

abbrev hbmTy0_1 (i : Nat) : BufTy := match i % 128 with
  | 0 => ⟨S32x1024x5, .f32⟩
  | 1 => ⟨S32x1024x5, .f32⟩
  | 2 => ⟨S1x5, .f32⟩
  | 3 => ⟨S5, .f32⟩
  | 4 => ⟨S1x1x5, .f32⟩
  | 5 => ⟨S32x1024x5, .f32⟩
  | 6 => ⟨S32x1024x5, .f32⟩
  | 7 => ⟨S_, .f32⟩
  | 8 => ⟨S5, .f32⟩
  | 9 => ⟨S5, .f32⟩
  | 10 => ⟨S5, .f32⟩
  | 11 => ⟨S_, .f32⟩
  | 12 => ⟨S5, .f32⟩
  | 13 => ⟨S5, .f32⟩
  | 14 => ⟨S_, .f32⟩
  | 15 => ⟨S5, .f32⟩
  | 16 => ⟨S5, .f32⟩
  | 17 => ⟨S_, .f32⟩
  | 18 => ⟨S5, .f32⟩
  | 19 => ⟨S5, .f32⟩
  | 20 => ⟨S_, .f32⟩
  | 21 => ⟨S_, .f32⟩
  | 22 => ⟨S5, .f32⟩
  | 23 => ⟨S5, .f32⟩
  | 24 => ⟨S_, .f32⟩
  | 25 => ⟨S5, .f32⟩
  | 26 => ⟨S5, .i1⟩
  | 27 => ⟨S_, .f32⟩
  | 28 => ⟨S5, .f32⟩
  | 29 => ⟨S5, .i1⟩
  | 30 => ⟨S_, .f32⟩
  | 31 => ⟨S_, .i1⟩
  | 32 => ⟨S5, .i1⟩
  | 33 => ⟨S5, .i1⟩
  | 34 => ⟨S5, .i1⟩
  | 35 => ⟨S5, .f32⟩
  | 36 => ⟨S5, .f32⟩
  | 37 => ⟨S5, .f32⟩
  | 38 => ⟨S_, .f32⟩
  | 39 => ⟨S5, .f32⟩
  | 40 => ⟨S5, .i1⟩
  | 41 => ⟨S_, .f32⟩
  | 42 => ⟨S_, .f32⟩
  | 43 => ⟨S5, .f32⟩
  | 44 => ⟨S5, .f32⟩
  | 45 => ⟨S5, .f32⟩
  | 46 => ⟨S5, .f32⟩
  | 47 => ⟨S5, .f32⟩
  | 48 => ⟨S5, .f32⟩
  | 49 => ⟨S1x1x5, .f32⟩
  | 50 => ⟨S32x1024x5, .f32⟩
  | 51 => ⟨S32x1024x5, .f32⟩
  | 52 => ⟨S32x1024x5, .f32⟩
  | 53 => ⟨S1x1x5, .f32⟩
  | 54 => ⟨S32x1024x5, .f32⟩
  | 55 => ⟨S32x1024x5, .f32⟩
  | 56 => ⟨S5, .f32⟩
  | 57 => ⟨S1x1x5, .f32⟩
  | 58 => ⟨S32x1024x5, .f32⟩
  | 59 => ⟨S32x1024x5, .f32⟩
  | 60 => ⟨S32x1024x5, .f32⟩
  | 61 => ⟨S32x1024x5, .f32⟩
  | 62 => ⟨S32x1024x5, .f32⟩
  | 63 => ⟨S1x1x5, .f32⟩
  | 64 => ⟨S32x1024x5, .f32⟩
  | 65 => ⟨S32x1024x5, .f32⟩
  | 66 => ⟨S_, .f32⟩
  | 67 => ⟨S5, .f32⟩
  | 68 => ⟨S5, .f32⟩
  | 69 => ⟨S5, .f32⟩
  | 70 => ⟨S1x1x5, .f32⟩
  | 71 => ⟨S32x1024x5, .f32⟩
  | 72 => ⟨S32x1024x5, .f32⟩
  | 73 => ⟨S1x1x5, .f32⟩
  | 74 => ⟨S32x1024x5, .f32⟩
  | 75 => ⟨S32x1024x5, .f32⟩
  | 76 => ⟨S1x1x5, .f32⟩
  | 77 => ⟨S32x1024x5, .f32⟩
  | 78 => ⟨S32x1024x5, .f32⟩
  | 79 => ⟨S_, .f32⟩
  | 80 => ⟨S32x1024, .f32⟩
  | 81 => ⟨S32x1024, .i32⟩
  | 82 => ⟨S1x1x5, .f32⟩
  | 83 => ⟨S32x1024x5, .f32⟩
  | 84 => ⟨S32x1024x5, .f32⟩
  | 85 => ⟨S32x1024x5, .f32⟩
  | 86 => ⟨S32x1024x5, .f32⟩
  | 87 => ⟨S1x5, .f32⟩
  | 88 => ⟨S5, .f32⟩
  | 89 => ⟨S1x1x5, .f32⟩
  | 90 => ⟨S32x1024x5, .f32⟩
  | 91 => ⟨S32x1024x5, .f32⟩
  | 92 => ⟨S_, .f32⟩
  | 93 => ⟨S5, .f32⟩
  | 94 => ⟨S5, .f32⟩
  | 95 => ⟨S5, .f32⟩
  | 96 => ⟨S_, .f32⟩
  | 97 => ⟨S5, .f32⟩
  | 98 => ⟨S5, .f32⟩
  | 99 => ⟨S_, .f32⟩
  | 100 => ⟨S5, .f32⟩
  | 101 => ⟨S5, .f32⟩
  | 102 => ⟨S_, .f32⟩
  | 103 => ⟨S5, .f32⟩
  | 104 => ⟨S5, .f32⟩
  | 105 => ⟨S_, .f32⟩
  | 106 => ⟨S_, .f32⟩
  | 107 => ⟨S5, .f32⟩
  | 108 => ⟨S5, .f32⟩
  | 109 => ⟨S_, .f32⟩
  | 110 => ⟨S5, .f32⟩
  | 111 => ⟨S5, .i1⟩
  | 112 => ⟨S_, .f32⟩
  | 113 => ⟨S5, .f32⟩
  | 114 => ⟨S5, .i1⟩
  | 115 => ⟨S_, .f32⟩
  | 116 => ⟨S_, .i1⟩
  | 117 => ⟨S5, .i1⟩
  | 118 => ⟨S5, .i1⟩
  | 119 => ⟨S5, .i1⟩
  | 120 => ⟨S5, .f32⟩
  | 121 => ⟨S5, .f32⟩
  | 122 => ⟨S5, .f32⟩
  | 123 => ⟨S_, .f32⟩
  | 124 => ⟨S5, .f32⟩
  | 125 => ⟨S5, .i1⟩
  | 126 => ⟨S_, .f32⟩
  | 127 => ⟨S_, .f32⟩
  | _ => ⟨S32x1024x256, .f32⟩

abbrev hbmTy0_2 (i : Nat) : BufTy := match i % 128 with
  | 0 => ⟨S5, .f32⟩
  | 1 => ⟨S5, .f32⟩
  | 2 => ⟨S5, .f32⟩
  | 3 => ⟨S5, .f32⟩
  | 4 => ⟨S5, .f32⟩
  | 5 => ⟨S5, .f32⟩
  | 6 => ⟨S1x1x5, .f32⟩
  | 7 => ⟨S32x1024x5, .f32⟩
  | 8 => ⟨S32x1024x5, .f32⟩
  | 9 => ⟨S32x1024x5, .f32⟩
  | 10 => ⟨S1x1x5, .f32⟩
  | 11 => ⟨S32x1024x5, .f32⟩
  | 12 => ⟨S32x1024x5, .f32⟩
  | 13 => ⟨S5, .f32⟩
  | 14 => ⟨S1x1x5, .f32⟩
  | 15 => ⟨S32x1024x5, .f32⟩
  | 16 => ⟨S32x1024x5, .f32⟩
  | 17 => ⟨S32x1024x5, .f32⟩
  | 18 => ⟨S32x1024x5, .f32⟩
  | 19 => ⟨S32x1024x5, .f32⟩
  | 20 => ⟨S1x1x5, .f32⟩
  | 21 => ⟨S32x1024x5, .f32⟩
  | 22 => ⟨S32x1024x5, .f32⟩
  | 23 => ⟨S_, .f32⟩
  | 24 => ⟨S5, .f32⟩
  | 25 => ⟨S5, .f32⟩
  | 26 => ⟨S5, .f32⟩
  | 27 => ⟨S1x1x5, .f32⟩
  | 28 => ⟨S32x1024x5, .f32⟩
  | 29 => ⟨S32x1024x5, .f32⟩
  | 30 => ⟨S1x1x5, .f32⟩
  | 31 => ⟨S32x1024x5, .f32⟩
  | 32 => ⟨S32x1024x5, .f32⟩
  | 33 => ⟨S1x1x5, .f32⟩
  | 34 => ⟨S32x1024x5, .f32⟩
  | 35 => ⟨S32x1024x5, .f32⟩
  | 36 => ⟨S_, .f32⟩
  | 37 => ⟨S32x1024, .f32⟩
  | 38 => ⟨S32x1024, .i32⟩
  | 39 => ⟨S1x1x5, .f32⟩
  | 40 => ⟨S32x1024x5, .f32⟩
  | 41 => ⟨S32x1024x5, .f32⟩
  | 42 => ⟨S32x1024x5, .f32⟩
  | 43 => ⟨S32x1024x5, .f32⟩
  | 44 => ⟨S1x5, .f32⟩
  | 45 => ⟨S5, .f32⟩
  | 46 => ⟨S1x1x5, .f32⟩
  | 47 => ⟨S32x1024x5, .f32⟩
  | 48 => ⟨S32x1024x5, .f32⟩
  | 49 => ⟨S_, .f32⟩
  | 50 => ⟨S5, .f32⟩
  | 51 => ⟨S5, .f32⟩
  | 52 => ⟨S5, .f32⟩
  | 53 => ⟨S_, .f32⟩
  | 54 => ⟨S5, .f32⟩
  | 55 => ⟨S5, .f32⟩
  | 56 => ⟨S_, .f32⟩
  | 57 => ⟨S5, .f32⟩
  | 58 => ⟨S5, .f32⟩
  | 59 => ⟨S_, .f32⟩
  | 60 => ⟨S5, .f32⟩
  | 61 => ⟨S5, .f32⟩
  | 62 => ⟨S_, .f32⟩
  | 63 => ⟨S_, .f32⟩
  | 64 => ⟨S5, .f32⟩
  | 65 => ⟨S5, .f32⟩
  | 66 => ⟨S_, .f32⟩
  | 67 => ⟨S5, .f32⟩
  | 68 => ⟨S5, .i1⟩
  | 69 => ⟨S_, .f32⟩
  | 70 => ⟨S5, .f32⟩
  | 71 => ⟨S5, .i1⟩
  | 72 => ⟨S_, .f32⟩
  | 73 => ⟨S_, .i1⟩
  | 74 => ⟨S5, .i1⟩
  | 75 => ⟨S5, .i1⟩
  | 76 => ⟨S5, .i1⟩
  | 77 => ⟨S5, .f32⟩
  | 78 => ⟨S5, .f32⟩
  | 79 => ⟨S5, .f32⟩
  | 80 => ⟨S_, .f32⟩
  | 81 => ⟨S5, .f32⟩
  | 82 => ⟨S5, .i1⟩
  | 83 => ⟨S_, .f32⟩
  | 84 => ⟨S_, .f32⟩
  | 85 => ⟨S5, .f32⟩
  | 86 => ⟨S5, .f32⟩
  | 87 => ⟨S5, .f32⟩
  | 88 => ⟨S5, .f32⟩
  | 89 => ⟨S5, .f32⟩
  | 90 => ⟨S5, .f32⟩
  | 91 => ⟨S1x1x5, .f32⟩
  | 92 => ⟨S32x1024x5, .f32⟩
  | 93 => ⟨S32x1024x5, .f32⟩
  | 94 => ⟨S32x1024x5, .f32⟩
  | 95 => ⟨S1x1x5, .f32⟩
  | 96 => ⟨S32x1024x5, .f32⟩
  | 97 => ⟨S32x1024x5, .f32⟩
  | 98 => ⟨S5, .f32⟩
  | 99 => ⟨S1x1x5, .f32⟩
  | 100 => ⟨S32x1024x5, .f32⟩
  | 101 => ⟨S32x1024x5, .f32⟩
  | 102 => ⟨S32x1024x5, .f32⟩
  | 103 => ⟨S32x1024x5, .f32⟩
  | 104 => ⟨S32x1024x5, .f32⟩
  | 105 => ⟨S1x1x5, .f32⟩
  | 106 => ⟨S32x1024x5, .f32⟩
  | 107 => ⟨S32x1024x5, .f32⟩
  | 108 => ⟨S_, .f32⟩
  | 109 => ⟨S5, .f32⟩
  | 110 => ⟨S5, .f32⟩
  | 111 => ⟨S5, .f32⟩
  | 112 => ⟨S1x1x5, .f32⟩
  | 113 => ⟨S32x1024x5, .f32⟩
  | 114 => ⟨S32x1024x5, .f32⟩
  | 115 => ⟨S1x1x5, .f32⟩
  | 116 => ⟨S32x1024x5, .f32⟩
  | 117 => ⟨S32x1024x5, .f32⟩
  | 118 => ⟨S1x1x5, .f32⟩
  | 119 => ⟨S32x1024x5, .f32⟩
  | 120 => ⟨S32x1024x5, .f32⟩
  | 121 => ⟨S_, .f32⟩
  | 122 => ⟨S32x1024, .f32⟩
  | 123 => ⟨S32x1024, .i32⟩
  | 124 => ⟨S1x1x5, .f32⟩
  | 125 => ⟨S32x1024x5, .f32⟩
  | 126 => ⟨S32x1024x5, .f32⟩
  | 127 => ⟨S32x1024x5, .f32⟩
  | _ => ⟨S32x1024x256, .f32⟩

abbrev hbmTy0_3 (i : Nat) : BufTy := match i % 128 with
  | 0 => ⟨S32x1024x5, .f32⟩
  | 1 => ⟨S32x1024x256, .f32⟩
  | 2 => ⟨S1x1x256, .f32⟩
  | 3 => ⟨S32x1024x256, .f32⟩
  | 4 => ⟨S32x1024x256, .f32⟩
  | 5 => ⟨S32x1024x1, .i32⟩
  | 6 => ⟨S32x1024x1, .i32⟩
  | 7 => ⟨S32x1024x1, .i32⟩
  | 8 => ⟨S32x1024x1, .i32⟩
  | 9 => ⟨S32x1024x4, .i32⟩
  | _ => ⟨S32x1024x256, .f32⟩

abbrev hbmTy (i : Nat) : BufTy := match i / 128 with
  | 0 => hbmTy0_0 i
  | 1 => hbmTy0_1 i
  | 2 => hbmTy0_2 i
  | 3 => hbmTy0_3 i
  | _ => ⟨S32x1024x256, .f32⟩

abbrev bufTy : (tb : Table) → Fin (tcTables nBuf tb) → BufTy
  | .hbm, ⟨i, _⟩ => hbmTy i
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_4 : Ref sig .tc := ⟨.hbm, 14, rfl⟩
abbrev main_v4 : Ref sig .tc := ⟨.hbm, 15, rfl⟩
abbrev main_v5 : Ref sig .tc := ⟨.hbm, 16, rfl⟩
abbrev main_cst_5 : Ref sig .tc := ⟨.hbm, 17, rfl⟩
abbrev main_v6 : Ref sig .tc := ⟨.hbm, 18, rfl⟩
abbrev main_v7 : Ref sig .tc := ⟨.hbm, 19, rfl⟩
abbrev main_cst_6 : Ref sig .tc := ⟨.hbm, 20, rfl⟩
abbrev main_v8 : Ref sig .tc := ⟨.hbm, 21, rfl⟩
abbrev main_v9 : Ref sig .tc := ⟨.hbm, 22, rfl⟩
abbrev main_cst_7 : Ref sig .tc := ⟨.hbm, 23, rfl⟩
abbrev main_v10 : Ref sig .tc := ⟨.hbm, 24, rfl⟩
abbrev main_v11 : Ref sig .tc := ⟨.hbm, 25, rfl⟩
abbrev main_cst_8 : Ref sig .tc := ⟨.hbm, 26, rfl⟩
abbrev main_v12 : Ref sig .tc := ⟨.hbm, 27, rfl⟩
abbrev main_v13 : Ref sig .tc := ⟨.hbm, 28, rfl⟩
abbrev main_cst_9 : Ref sig .tc := ⟨.hbm, 29, rfl⟩
abbrev main_v14 : Ref sig .tc := ⟨.hbm, 30, rfl⟩
abbrev main_v15 : Ref sig .tc := ⟨.hbm, 31, rfl⟩
abbrev main_cst_10 : Ref sig .tc := ⟨.hbm, 32, rfl⟩
abbrev main_v16 : Ref sig .tc := ⟨.hbm, 33, rfl⟩
abbrev main_v17 : Ref sig .tc := ⟨.hbm, 34, rfl⟩
abbrev main_cst_11 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_12 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_13 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_14 : Ref sig .tc := ⟨.hbm, 54, rfl⟩
abbrev main_v34 : Ref sig .tc := ⟨.hbm, 55, rfl⟩
abbrev main_v35 : Ref sig .tc := ⟨.hbm, 56, rfl⟩
abbrev main_cst_15 : Ref sig .tc := ⟨.hbm, 57, rfl⟩
abbrev main_v36 : Ref sig .tc := ⟨.hbm, 58, rfl⟩
abbrev main_v37 : Ref sig .tc := ⟨.hbm, 59, rfl⟩
abbrev main_cst_16 : Ref sig .tc := ⟨.hbm, 60, rfl⟩
abbrev main_v38 : Ref sig .tc := ⟨.hbm, 61, rfl⟩
abbrev main_v39 : Ref sig .tc := ⟨.hbm, 62, rfl⟩
abbrev main_cst_17 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_cst : Ref sig .tc := ⟨.hbm, 67, rfl⟩
abbrev main_call0_v3 : Ref sig .tc := ⟨.hbm, 68, rfl⟩
abbrev main_call0_v4 : Ref sig .tc := ⟨.hbm, 69, rfl⟩
abbrev main_call0_cst_0 : Ref sig .tc := ⟨.hbm, 70, rfl⟩
abbrev main_call0_v5 : Ref sig .tc := ⟨.hbm, 71, rfl⟩
abbrev main_call0_v6 : Ref sig .tc := ⟨.hbm, 72, rfl⟩
abbrev main_call0_cst_1 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_v12 : Ref sig .tc := ⟨.hbm, 79, rfl⟩
abbrev main_v40 : Ref sig .tc := ⟨.hbm, 80, rfl⟩
abbrev main_cst_18 : Ref sig .tc := ⟨.hbm, 81, rfl⟩
abbrev main_v41 : Ref sig .tc := ⟨.hbm, 82, rfl⟩
abbrev main_v42 : Ref sig .tc := ⟨.hbm, 83, rfl⟩
abbrev main_cst_19 : Ref sig .tc := ⟨.hbm, 84, rfl⟩
abbrev main_cst_20 : Ref sig .tc := ⟨.hbm, 85, rfl⟩
abbrev main_call1_v0 : Ref sig .tc := ⟨.hbm, 86, rfl⟩
abbrev main_call1_v1 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_21 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_22 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_23 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_24 : Ref sig .tc := ⟨.hbm, 139, rfl⟩
abbrev main_v91 : Ref sig .tc := ⟨.hbm, 140, rfl⟩
abbrev main_v92 : Ref sig .tc := ⟨.hbm, 141, rfl⟩
abbrev main_cst_25 : Ref sig .tc := ⟨.hbm, 142, rfl⟩
abbrev main_v93 : Ref sig .tc := ⟨.hbm, 143, rfl⟩
abbrev main_v94 : Ref sig .tc := ⟨.hbm, 144, rfl⟩
abbrev main_cst_26 : Ref sig .tc := ⟨.hbm, 145, rfl⟩
abbrev main_v95 : Ref sig .tc := ⟨.hbm, 146, rfl⟩
abbrev main_v96 : Ref sig .tc := ⟨.hbm, 147, rfl⟩
abbrev main_cst_27 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_cst : Ref sig .tc := ⟨.hbm, 152, rfl⟩
abbrev main_call3_v3 : Ref sig .tc := ⟨.hbm, 153, rfl⟩
abbrev main_call3_v4 : Ref sig .tc := ⟨.hbm, 154, rfl⟩
abbrev main_call3_cst_0 : Ref sig .tc := ⟨.hbm, 155, rfl⟩
abbrev main_call3_v5 : Ref sig .tc := ⟨.hbm, 156, rfl⟩
abbrev main_call3_v6 : Ref sig .tc := ⟨.hbm, 157, rfl⟩
abbrev main_call3_cst_1 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_v12 : Ref sig .tc := ⟨.hbm, 164, rfl⟩
abbrev main_v97 : Ref sig .tc := ⟨.hbm, 165, rfl⟩
abbrev main_cst_28 : Ref sig .tc := ⟨.hbm, 166, rfl⟩
abbrev main_v98 : Ref sig .tc := ⟨.hbm, 167, rfl⟩
abbrev main_v99 : Ref sig .tc := ⟨.hbm, 168, rfl⟩
abbrev main_cst_29 : Ref sig .tc := ⟨.hbm, 169, rfl⟩
abbrev main_cst_30 : Ref sig .tc := ⟨.hbm, 170, rfl⟩
abbrev main_call4_v0 : Ref sig .tc := ⟨.hbm, 171, rfl⟩
abbrev main_call4_v1 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_31 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_cst_32 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_33 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_34 : Ref sig .tc := ⟨.hbm, 224, rfl⟩
abbrev main_v148 : Ref sig .tc := ⟨.hbm, 225, rfl⟩
abbrev main_v149 : Ref sig .tc := ⟨.hbm, 226, rfl⟩
abbrev main_cst_35 : Ref sig .tc := ⟨.hbm, 227, rfl⟩
abbrev main_v150 : Ref sig .tc := ⟨.hbm, 228, rfl⟩
abbrev main_v151 : Ref sig .tc := ⟨.hbm, 229, rfl⟩
abbrev main_cst_36 : Ref sig .tc := ⟨.hbm, 230, rfl⟩
abbrev main_v152 : Ref sig .tc := ⟨.hbm, 231, rfl⟩
abbrev main_v153 : Ref sig .tc := ⟨.hbm, 232, rfl⟩
abbrev main_cst_37 : Ref sig .tc := ⟨.hbm, 233, rfl⟩
abbrev main_call6_v0 : Ref sig .tc := ⟨.hbm, 234, rfl⟩
abbrev main_call6_v1 : Ref sig .tc := ⟨.hbm, 235, rfl⟩
abbrev main_call6_v2 : Ref sig .tc := ⟨.hbm, 236, rfl⟩
abbrev main_call6_cst : Ref sig .tc := ⟨.hbm, 237, rfl⟩
abbrev main_call6_v3 : Ref sig .tc := ⟨.hbm, 238, rfl⟩
abbrev main_call6_v4 : Ref sig .tc := ⟨.hbm, 239, rfl⟩
abbrev main_call6_cst_0 : Ref sig .tc := ⟨.hbm, 240, rfl⟩
abbrev main_call6_v5 : Ref sig .tc := ⟨.hbm, 241, rfl⟩
abbrev main_call6_v6 : Ref sig .tc := ⟨.hbm, 242, rfl⟩
abbrev main_call6_cst_1 : Ref sig .tc := ⟨.hbm, 243, rfl⟩
abbrev main_call6_v7 : Ref sig .tc := ⟨.hbm, 244, rfl⟩
abbrev main_call6_v8 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_v12 : Ref sig .tc := ⟨.hbm, 249, rfl⟩
abbrev main_v154 : Ref sig .tc := ⟨.hbm, 250, rfl⟩
abbrev main_cst_38 : Ref sig .tc := ⟨.hbm, 251, rfl⟩
abbrev main_v155 : Ref sig .tc := ⟨.hbm, 252, rfl⟩
abbrev main_v156 : Ref sig .tc := ⟨.hbm, 253, rfl⟩
abbrev main_cst_39 : Ref sig .tc := ⟨.hbm, 254, rfl⟩
abbrev main_cst_40 : Ref sig .tc := ⟨.hbm, 255, rfl⟩
abbrev main_call7_v0 : Ref sig .tc := ⟨.hbm, 256, rfl⟩
abbrev main_call7_v1 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_41 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_cst_42 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_cst_43 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_cst_44 : Ref sig .tc := ⟨.hbm, 309, rfl⟩
abbrev main_v205 : Ref sig .tc := ⟨.hbm, 310, rfl⟩
abbrev main_v206 : Ref sig .tc := ⟨.hbm, 311, rfl⟩
abbrev main_cst_45 : Ref sig .tc := ⟨.hbm, 312, rfl⟩
abbrev main_v207 : Ref sig .tc := ⟨.hbm, 313, rfl⟩
abbrev main_v208 : Ref sig .tc := ⟨.hbm, 314, rfl⟩
abbrev main_cst_46 : Ref sig .tc := ⟨.hbm, 315, rfl⟩
abbrev main_v209 : Ref sig .tc := ⟨.hbm, 316, rfl⟩
abbrev main_v210 : Ref sig .tc := ⟨.hbm, 317, rfl⟩
abbrev main_cst_47 : Ref sig .tc := ⟨.hbm, 318, rfl⟩
abbrev main_call9_v0 : Ref sig .tc := ⟨.hbm, 319, rfl⟩
abbrev main_call9_v1 : Ref sig .tc := ⟨.hbm, 320, rfl⟩
abbrev main_call9_v2 : Ref sig .tc := ⟨.hbm, 321, rfl⟩
abbrev main_call9_cst : Ref sig .tc := ⟨.hbm, 322, rfl⟩
abbrev main_call9_v3 : Ref sig .tc := ⟨.hbm, 323, rfl⟩
abbrev main_call9_v4 : Ref sig .tc := ⟨.hbm, 324, rfl⟩
abbrev main_call9_cst_0 : Ref sig .tc := ⟨.hbm, 325, rfl⟩
abbrev main_call9_v5 : Ref sig .tc := ⟨.hbm, 326, rfl⟩
abbrev main_call9_v6 : Ref sig .tc := ⟨.hbm, 327, rfl⟩
abbrev main_call9_cst_1 : Ref sig .tc := ⟨.hbm, 328, rfl⟩
abbrev main_call9_v7 : Ref sig .tc := ⟨.hbm, 329, rfl⟩
abbrev main_call9_v8 : Ref sig .tc := ⟨.hbm, 330, rfl⟩
abbrev main_call9_v9 : Ref sig .tc := ⟨.hbm, 331, rfl⟩
abbrev main_call9_v10 : Ref sig .tc := ⟨.hbm, 332, rfl⟩
abbrev main_call9_v11 : Ref sig .tc := ⟨.hbm, 333, rfl⟩
abbrev main_call9_v12 : Ref sig .tc := ⟨.hbm, 334, rfl⟩
abbrev main_v211 : Ref sig .tc := ⟨.hbm, 335, rfl⟩
abbrev main_cst_48 : Ref sig .tc := ⟨.hbm, 336, rfl⟩
abbrev main_v212 : Ref sig .tc := ⟨.hbm, 337, rfl⟩
abbrev main_v213 : Ref sig .tc := ⟨.hbm, 338, rfl⟩
abbrev main_cst_49 : Ref sig .tc := ⟨.hbm, 339, rfl⟩
abbrev main_cst_50 : Ref sig .tc := ⟨.hbm, 340, rfl⟩
abbrev main_call10_v0 : Ref sig .tc := ⟨.hbm, 341, rfl⟩
abbrev main_call10_v1 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_cst_51 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_cst_52 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_v261 : Ref sig .tc := ⟨.hbm, 392, rfl⟩
abbrev main_v262 : Ref sig .tc := ⟨.hbm, 393, rfl⟩

abbrev nD : Nat := 1
abbrev τ : Topo := Topo.v7x

variable {F : FTy → Type} [FloatOps F]
-- ==== Proof.Level.lean ====
/- One coordinate of one token through the residual quantizers, as extended-real arithmetic: the kernel's spelling of a
   step and the plain one, and the proof that they are the same. No program is mentioned here. -/
module

public import Idealize.ShloMosaic.PureOps.Ideal

@[expose] public section

noncomputable section

namespace Cert.Fsq

open Idealize.ShloMosaic

/-- One half, the amount an even number of levels is shifted by. -/
def half : EReal := ((1 / 2 : ℝ) : EReal)

/-- The whole number a residual `r` is rounded to: `r` scaled by `v`, shifted by `s`, squashed by tanh to a width `h`,
    moved down by one half and rounded to even. -/
def code (s h v r : EReal) : EReal :=
  Ideal.liftRound Ideal.roundHalfEven (Ideal.tanh (r * v + s) * h - half)

/-- The residual before quantizer `i`, by a table `T` of constants for the coordinate `k`: row 0 the shift, row 1 the
    width, rows 4, 5, … the factors in front of the rounding and rows 8, 9, … the factors behind it. -/
def resid (T : ℕ → Fin 5 → EReal) (k : Fin 5) (z : EReal) : ℕ → EReal
  | 0 => z
  | i + 1 => resid T k z i - code (T 0 k) (T 1 k) (T (4 + i) k) (resid T k z i) * T (8 + i) k

/-- The whole number quantizer `i` rounds to. -/
def level (T : ℕ → Fin 5 → EReal) (k : Fin 5) (z : EReal) (i : ℕ) : EReal :=
  code (T 0 k) (T 1 k) (T (4 + i) k) (resid T k z i)

/-- The sum of the four quantized values. -/
def qsum (T : ℕ → Fin 5 → EReal) (k : Fin 5) (z : EReal) : EReal :=
  level T k z 0 * T 8 k + level T k z 1 * T 9 k + level T k z 2 * T 10 k + level T k z 3 * T 11 k

/-- The projection of one token `x` to the coordinate `k`. -/
def zAt (x : Fin 256 → EReal) (W : Fin 256 → Fin 5 → EReal) (b : Fin 5 → EReal) (k : Fin 5) : EReal :=
  (∑ d, x d * W d k) + b k

/-- The first result at one token and output coordinate: the quantized sum projected back. -/
def outAt (T : ℕ → Fin 5 → EReal) (z : Fin 5 → EReal) (W : Fin 5 → EReal) (b : EReal) : EReal :=
  (∑ k, qsum T k (z k) * W k) + b

/-- The second result at one token and quantizer: the whole numbers weighted by row 2, offset by row 3 and summed. -/
def indexAt (T : ℕ → Fin 5 → EReal) (z : Fin 5 → EReal) (i : ℕ) : BitVec 32 :=
  Ideal.fptosi 32 (∑ k, (level T k (z k) i * T 2 k + T 3 k))

/-- The hyperbolic tangent of anything is a real number. -/
theorem tanh_real (x : EReal) : ∃ t : ℝ, Ideal.tanh x = (t : EReal) := by
  induction x with
  | bot => exact ⟨-1, by simp⟩
  | coe r => exact ⟨_, rfl⟩
  | top => exact ⟨1, by simp⟩

/-- So the squashed residual is a real number. -/
theorem bound_real (x : EReal) (h : ℝ) : ∃ b : ℝ, Ideal.tanh x * (h : EReal) - half = (b : EReal) := by
  obtain ⟨t, ht⟩ := tanh_real x
  exact ⟨t * h - 1 / 2, by rw [ht, half]; push_cast; rfl⟩

/-- Adding to a real number what is missing to its rounding gives its rounding. -/
theorem add_round_sub (x : EReal) (h : ℝ) :
    (Ideal.tanh x * (h : EReal) - half)
      + (Ideal.liftRound Ideal.roundHalfEven (Ideal.tanh x * (h : EReal) - half) - (Ideal.tanh x * (h : EReal) - half))
    = Ideal.liftRound Ideal.roundHalfEven (Ideal.tanh x * (h : EReal) - half) := by
  obtain ⟨b, hb⟩ := bound_real x h
  rw [hb, Ideal.liftRound_coe, ← EReal.coe_sub, ← EReal.coe_add]
  congr 1; ring

/-- The rounding of a squashed residual is a real number. -/
theorem code_real (s : EReal) (h : ℝ) (v r : EReal) : ∃ n : ℝ, code s h v r = (n : EReal) := by
  obtain ⟨b, hb⟩ := bound_real (r * v + s) h
  exact ⟨_, by rw [code, hb, Ideal.liftRound_coe]⟩

/-- Dividing by a scale is multiplying by its reciprocal. -/
theorem div_scale {c : ℝ} (hc : c ≠ 0) (r : EReal) : Ideal.div r (c : EReal) = r * Ideal.div 1 (c : EReal) := by
  rw [Ideal.div_coe hc, Ideal.div_coe hc, one_mul]

/-- A whole number over the half width times the scale is the whole number times the scale over the half width. -/
theorem quant_eq (s : EReal) (h : ℝ) (v r : EReal) {c w : ℝ} (hw : w ≠ 0) :
    Ideal.div (code s h v r) (w : EReal) * (c : EReal) = code s h v r * Ideal.div (c : EReal) (w : EReal) := by
  obtain ⟨n, hn⟩ := code_real s h v r
  rw [hn, Ideal.div_coe hw, Ideal.div_coe hw]
  simp only [← EReal.coe_mul]
  congr 1; ring

/-- A whole number over the half width, scaled back and offset by the half width, then weighted, is the whole number
    weighted and offset by the weighted half width. -/
theorem scaled_eq (s : EReal) (h : ℝ) (v r : EReal) {w : ℝ} (hw : w ≠ 0) (B : ℝ) :
    (Ideal.div (code s h v r) (w : EReal) * (w : EReal) + (w : EReal)) * (B : EReal)
      = code s h v r * (B : EReal) + ((w * B : ℝ) : EReal) := by
  obtain ⟨n, hn⟩ := code_real s h v r
  rw [hn, Ideal.div_coe hw]
  simp only [← EReal.coe_mul, ← EReal.coe_add]
  congr 1; field_simp

end Cert.Fsq

end
-- ==== Proof.KernelBlock.lean ====
/- What one launch of the kernel body leaves in its two output blocks, entry by entry, at the extended reals: the
   specification of Level.lean applied to the block's rows, for any table of constants. -/
module

public import proofs.«01_k».proof.Proof.Level
public import proofs.«01_k».proof.Proof.Gen.KernelIdeal.Frame
public import Idealize.ShloMosaic.Lib.Pointwise
public import Idealize.ShloMosaic.Lib.Pipeline.Value

@[expose] public section

noncomputable section

namespace Cert.KernelIdeal.Block

open Idealize.ShloMosaic Cert.KernelIdeal Cert.KernelIdeal.Gen Cert.Fsq

/-- The block's table of constants, row `a`. -/
def tab (x5 : Vec Ideal S12x5 .f32) (a : ℕ) (k : Fin 5) : EReal :=
  if h : a < 12 then x5 (ix2 ⟨a, h⟩ k) else 0

/-- The projection of the block's row `r`. -/
def zRow (x0 : Vec Ideal S1024x256 .f32) (x1 : Vec Ideal S256x5 .f32) (x2 : Vec Ideal S1x5 .f32) (r : Fin 1024) (k : Fin 5) : EReal :=
  zAt (fun d => x0 (ix2 r d)) (fun d k => x1 (ix2 d k)) (fun k => x2 (ix2 0 k)) k

variable (x0 : Vec Ideal S1024x256 .f32) (x1 : Vec Ideal S256x5 .f32) (x2 : Vec Ideal S1x5 .f32)
  (x3 : Vec Ideal S5x256 .f32) (x4 : Vec Ideal S1x256 .f32) (x5 : Vec Ideal S12x5 .f32)

/-- The constant one half. -/
theorem ofBits_half : Ideal.ofBits .f32 0x3F000000#32 = half := by
  rw [half]; simp [Ideal.ofBits, Ideal.ieee, -EReal.coe_mul]; norm_num

theorem scalar_half : (Scalar.ofBits .f32 0x3F000000#32 : Ideal .f32) = half := ofBits_half

/-- The table read whole. -/
theorem pay3_apply (a : Fin 12) (k : Fin 5) : k0_pay3 x5 (ix2 a k) = x5 (ix2 a k) := by
  unfold k0_pay3; pointwise

/-- The table's first row: the shift. -/
theorem pay4_apply (a : Fin 1) (k : Fin 5) : k0_pay4 x5 (ix2 a k) = tab x5 0 k := by
  obtain rfl : a = 0 := Subsingleton.elim _ _
  unfold k0_pay4 k0_pay3; pointwise; rfl

/-- The table's second row: the width. -/
theorem pay5_apply (a : Fin 1) (k : Fin 5) : k0_pay5 x5 (ix2 a k) = tab x5 1 k := by
  obtain rfl : a = 0 := Subsingleton.elim _ _
  unfold k0_pay5 k0_pay3; pointwise; rfl

/-- The table's third row: the weight of a coordinate. -/
theorem pay6_apply (a : Fin 1) (k : Fin 5) : k0_pay6 x5 (ix2 a k) = tab x5 2 k := by
  obtain rfl : a = 0 := Subsingleton.elim _ _
  unfold k0_pay6 k0_pay3; pointwise; rfl

/-- The table's fourth row: the offset of a coordinate. -/
theorem pay7_apply (a : Fin 1) (k : Fin 5) : k0_pay7 x5 (ix2 a k) = tab x5 3 k := by
  obtain rfl : a = 0 := Subsingleton.elim _ _
  unfold k0_pay7 k0_pay3; pointwise; rfl

/-- The table's tenth row: the second quantizer's factor behind the rounding. -/
theorem pay14_apply (a : Fin 1) (k : Fin 5) : k0_pay14 x5 (ix2 a k) = tab x5 9 k := by
  obtain rfl : a = 0 := Subsingleton.elim _ _
  unfold k0_pay14 k0_pay3; pointwise; rfl

/-- The projection, before any quantizer. -/
theorem pay8_apply (r : Fin 1024) (k : Fin 5) : k0_pay8 x0 x1 x2 (ix2 r k) = zRow x0 x1 x2 r k := by
  unfold k0_pay8 zRow zAt
  pointwise [dot_S1024x256_S256x5_S1024x5_1_0_0_1_n_n]

/-- The first quantizer's whole number. -/
theorem pay9_apply (r : Fin 1024) (k : Fin 5) :
    k0_pay9 x5 x0 x1 x2 (ix2 r k) = level (tab x5) k (zRow x0 x1 x2 r k) 0 := by
  unfold k0_pay9
  pointwise [pay8_apply, pay3_apply, pay4_apply, pay5_apply, ofBits_half]
  rfl

/-- The residual left by the first quantizer. -/
theorem pay11_apply (r : Fin 1024) (k : Fin 5) :
    k0_pay11 x5 x0 x1 x2 (ix2 r k) = resid (tab x5) k (zRow x0 x1 x2 r k) 1 := by
  unfold k0_pay11 k0_pay10
  pointwise [pay8_apply, pay9_apply, pay3_apply]
  rfl

/-- The second quantizer's whole number. -/
theorem pay16_apply (r : Fin 1024) (k : Fin 5) :
    k0_pay16 (k0_pay15 x5 x0 x1 x2) half (ix2 r k) = level (tab x5) k (zRow x0 x1 x2 r k) 1 := by
  unfold k0_pay16 k0_pay15
  pointwise [pay11_apply, pay3_apply, pay4_apply, pay5_apply]
  rfl

/-- The residual left by the second quantizer. -/
theorem pay18_apply (r : Fin 1024) (k : Fin 5) :
    k0_pay18 (k0_pay11 x5 x0 x1 x2) (k0_pay14 x5) (k0_pay15 x5 x0 x1 x2) half (ix2 r k)
      = resid (tab x5) k (zRow x0 x1 x2 r k) 2 := by
  unfold k0_pay18 k0_pay17
  pointwise [pay11_apply, pay16_apply, pay14_apply]
  rfl

/-- The third quantizer's whole number. -/
theorem pay20_apply (r : Fin 1024) (k : Fin 5) :
    k0_pay20 (k0_pay3 x5) (k0_pay4 x5) (k0_pay5 x5) (k0_pay11 x5 x0 x1 x2) (k0_pay14 x5) (k0_pay15 x5 x0 x1 x2)
        half (ix2 r k)
      = level (tab x5) k (zRow x0 x1 x2 r k) 2 := by
  unfold k0_pay20
  pointwise [pay18_apply, pay3_apply, pay4_apply, pay5_apply, ofBits_half]
  rfl

/-- The fourth quantizer's whole number. -/
theorem pay23_apply (r : Fin 1024) (k : Fin 5) :
    k0_pay23 (k0_pay3 x5) (k0_pay4 x5) (k0_pay5 x5) (k0_pay11 x5 x0 x1 x2) (k0_pay14 x5) (k0_pay15 x5 x0 x1 x2)
        half (ix2 r k)
      = level (tab x5) k (zRow x0 x1 x2 r k) 3 := by
  unfold k0_pay23 k0_pay21
  pointwise [pay18_apply, pay20_apply, pay3_apply, pay4_apply, pay5_apply, ofBits_half]
  rfl

/-- The sum of the four quantized values. -/
theorem pay24_apply (r : Fin 1024) (k : Fin 5) :
    k0_pay24 (k0_pay3 x5) (k0_pay4 x5) (k0_pay5 x5) (k0_pay11 x5 x0 x1 x2) (k0_pay12 x5 x0 x1 x2) (k0_pay14 x5)
        (k0_pay15 x5 x0 x1 x2) half (ix2 r k)
      = qsum (tab x5) k (zRow x0 x1 x2 r k) := by
  unfold k0_pay24 k0_pay21 k0_pay17 k0_pay12 k0_pay10
  pointwise [pay9_apply, pay16_apply, pay20_apply, pay23_apply, pay3_apply, pay14_apply]
  rfl

/-- Offsets all zero. -/
theorem zero_offset : (![0, 0] : Fin 2 → Nat) = fun _ => 0 := funext fun a => by fin_cases a <;> rfl

/-- The first output block: the quantized sum projected back. -/
theorem out6_apply (r : Fin 1024) (n : Fin 256) :
    out0_6 x0 x1 x2 x3 x4 x5 (ix2 r n)
      = outAt (tab x5) (zRow x0 x1 x2 r) (fun k => x3 (ix2 k n)) (x4 (ix2 0 n)) := by
  unfold_out out0_6
  rw [View.canon_unit_zero zero_offset, scalar_half]
  repeat rw [View.ld_unit_zero zero_offset]
  unfold k0_pay1 outAt
  pointwise [pay24_apply, dot_S1024x5_S5x256_S1024x256_1_0_0_1_n_n]

/-- The second output block: the four sums of weighted whole numbers, as integers. -/
theorem out7_apply (r : Fin 1024) (j : Fin 4) :
    out0_7 x0 x1 x2 x3 x4 x5 (ix2 r j) = indexAt (tab x5) (zRow x0 x1 x2 r) j.val := by
  unfold_out out0_7
  rw [View.canon_unit_zero zero_offset, scalar_half]
  repeat rw [View.ld_unit_zero zero_offset]
  unfold k0_pay2 k0_pay13 k0_pay19 k0_pay22 k0_pay25 indexAt
  pointwise [pay9_apply, pay16_apply, pay20_apply, pay23_apply, pay6_apply, pay7_apply]
  fin_vals j with hj
  all_goals simp only [hj, Nat.reduceSub, Nat.reduceLT, ↓reduceDIte]
  all_goals rfl

end Cert.KernelIdeal.Block

end
-- ==== Proof.Consts.lean ====
/- The constants of the quantizers as real numbers, the table of them that both programs are shown to use, and the facts
   about the constants' words. -/
module

public import proofs.«01_k».proof.Proof.Level

@[expose] public section

noncomputable section

namespace Cert.Fsq

open Idealize.ShloMosaic

/-- The number of levels of a coordinate. -/
def lev : Fin 5 → ℝ := ![8, 8, 8, 4, 4]

/-- Half of it. -/
def hw : Fin 5 → ℝ := ![4, 4, 4, 2, 2]

/-- The weight of a coordinate in an index: the product of the level numbers before it. -/
def basis : Fin 5 → ℝ := ![1, 8, 64, 512, 2048]

/-- One and a thousandth, as the nearest float of 24 bits. -/
def stretch : ℝ := 8396997 / 8388608

/-- The width of a coordinate's bound. -/
def width (k : Fin 5) : ℝ := (lev k - 1) * stretch * (1 / 2)

/-- The scale of quantizer `i` at a coordinate. -/
def scale (i : ℕ) (k : Fin 5) : ℝ := (lev k - 1) ^ (-(i : ℝ))

/-- The shift in front of the squashing. -/
def shift (k : Fin 5) : EReal := Ideal.atanh (Ideal.div half (width k : EReal))

/-- The table of constants: shift, width, weight, offset, then four inverse scales and four scales over half the levels. -/
def consts : ℕ → Fin 5 → EReal
  | 0, k => shift k
  | 1, k => (width k : EReal)
  | 2, k => (basis k : EReal)
  | 3, k => ((hw k * basis k : ℝ) : EReal)
  | 4, k => Ideal.div 1 (scale 0 k : EReal)
  | 5, k => Ideal.div 1 (scale 1 k : EReal)
  | 6, k => Ideal.div 1 (scale 2 k : EReal)
  | 7, k => Ideal.div 1 (scale 3 k : EReal)
  | 8, k => Ideal.div (scale 0 k : EReal) (hw k : EReal)
  | 9, k => Ideal.div (scale 1 k : EReal) (hw k : EReal)
  | 10, k => Ideal.div (scale 2 k : EReal) (hw k : EReal)
  | 11, k => Ideal.div (scale 3 k : EReal) (hw k : EReal)
  | _ + 12, _ => 0

theorem lev_sub_one_pos (k : Fin 5) : 0 < lev k - 1 := by
  fin_cases k <;> norm_num [lev]

theorem scale_ne_zero (i : ℕ) (k : Fin 5) : scale i k ≠ 0 :=
  (Real.rpow_pos_of_pos (lev_sub_one_pos k) _).ne'

theorem hw_ne_zero (k : Fin 5) : hw k ≠ 0 := by
  fin_cases k <;> norm_num [hw]

/-- Half the levels, rounded down, is half the levels. -/
theorem floor_half (k : Fin 5) : (⌊lev k * (1 / 2)⌋ : ℝ) = hw k := by
  have h : lev k * (1 / 2) = (((![4, 4, 4, 2, 2] : Fin 5 → ℤ) k : ℤ) : ℝ) := by
    fin_cases k <;> norm_num [lev]
  rw [h, Int.floor_intCast]
  fin_cases k <;> norm_num [hw]

theorem bits_half : Ideal.ofBits .f32 0x3F000000#32 = half := by
  rw [half]; simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_stretch : Ideal.ofBits .f32 0x3F8020C5#32 = (stretch : EReal) := by
  rw [stretch]; simp [Ideal.ofBits, Ideal.ieee, -EReal.coe_mul]; norm_num

theorem bits_neg_zero : Ideal.ofBits .f32 0x80000000#32 = ((-((0 : ℕ) : ℝ) : ℝ) : EReal) := by
  simp [Ideal.ofBits, Ideal.ieee, -EReal.coe_mul]

theorem bits_neg_one : Ideal.ofBits .f32 0xBF800000#32 = ((-((1 : ℕ) : ℝ) : ℝ) : EReal) := by
  simp [Ideal.ofBits, Ideal.ieee, -EReal.coe_mul]; norm_num

theorem bits_neg_two : Ideal.ofBits .f32 0xC0000000#32 = ((-((2 : ℕ) : ℝ) : ℝ) : EReal) := by
  simp [Ideal.ofBits, Ideal.ieee, -EReal.coe_mul]; norm_num

theorem bits_neg_three : Ideal.ofBits .f32 0xC0400000#32 = ((-((3 : ℕ) : ℝ) : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

/-- The width as it is computed from the levels' number. -/
theorem width_div (k : Fin 5) :
    Ideal.div ((((lev k : ℝ) : EReal) - ((1 : ℝ) : EReal)) * (stretch : EReal)) ((2 : ℝ) : EReal) = (width k : EReal) := by
  rw [Ideal.div_coe two_ne_zero, width]
  push_cast; rfl

/-- A scale as a power of the levels' number less one. -/
theorem scale_pow (i : ℕ) (k : Fin 5) :
    Ideal.pow (((lev k : ℝ) : EReal) - ((1 : ℝ) : EReal)) ((-(i : ℝ) : ℝ) : EReal) = (scale i k : EReal) := by
  rw [← EReal.coe_sub]; rfl

end Cert.Fsq

end
-- ==== Proof.Table.lean ====
/- What the host part of the kernel hands to the launch: the table of constants and the reshaped arguments. -/
module

public import proofs.«01_k».proof.Proof.Consts
public import proofs.«01_k».proof.Proof.Gen.KernelIdeal.Frame
public import Idealize.ShloMosaic.Lib.Pointwise
public import Idealize.ShloMosaic.Lib.StableHlo.Run

@[expose] public section

noncomputable section

namespace Cert.KernelIdeal.Host

open Idealize.ShloMosaic Idealize.ShloMosaic.TcCoe Cert.KernelIdeal Cert.KernelIdeal.Gen Cert.Fsq

variable (m : (ℓ : Loc nD τ sig) → Buf (Elt Ideal) ℓ) (c : Dev nD)

/-- The levels' numbers. -/
theorem lit0_apply (k : Fin 5) : Ideal.ofBits .f32 (lit0 (S5.rowMajor (ix1 k))) = ((lev k : ℝ) : EReal) := by
  fin_cases k
  · exact bits_eight
  · exact bits_eight
  · exact bits_eight
  · exact bits_four
  · exact bits_four

/-- The weights. -/
theorem lit1_apply (k : Fin 5) : Ideal.ofBits .f32 (lit1 (S5.rowMajor (ix1 k))) = ((basis k : ℝ) : EReal) := by
  fin_cases k
  · exact bits_one
  · exact bits_eight
  · show Ideal.ofBits .f32 0x42800000#32 = ((64 : ℝ) : EReal)
    simp [Ideal.ofBits, Ideal.ieee, -EReal.coe_mul]; norm_num
  · show Ideal.ofBits .f32 0x44000000#32 = ((512 : ℝ) : EReal)
    simp [Ideal.ofBits, Ideal.ieee, -EReal.coe_mul]; norm_num
  · show Ideal.ofBits .f32 0x45000000#32 = ((2048 : ℝ) : EReal)
    simp [Ideal.ofBits, Ideal.ieee, -EReal.coe_mul]; norm_num

/-- The weights times half the levels. -/
theorem lit2_apply (k : Fin 5) : Ideal.ofBits .f32 (lit2 (S5.rowMajor (ix1 k))) = ((hw k * basis k : ℝ) : EReal) := by
  fin_cases k
  · show Ideal.ofBits .f32 0x40800000#32 = ((4 * 1 : ℝ) : EReal)
    simp [Ideal.ofBits, Ideal.ieee, -EReal.coe_mul]; norm_num
  · show Ideal.ofBits .f32 0x42000000#32 = ((4 * 8 : ℝ) : EReal)
    simp [Ideal.ofBits, Ideal.ieee, -EReal.coe_mul]; norm_num
  · show Ideal.ofBits .f32 0x43800000#32 = ((4 * 64 : ℝ) : EReal)
    simp [Ideal.ofBits, Ideal.ieee, -EReal.coe_mul]; norm_num
  · show Ideal.ofBits .f32 0x44800000#32 = ((2 * 512 : ℝ) : EReal)
    simp [Ideal.ofBits, Ideal.ieee, -EReal.coe_mul]; norm_num
  · show Ideal.ofBits .f32 0x45800000#32 = ((2 * 2048 : ℝ) : EReal)
    simp [Ideal.ofBits, Ideal.ieee, -EReal.coe_mul]; norm_num

/-- Half the levels. -/
theorem lit3_apply (k : Fin 5) : Ideal.ofBits .f32 (lit3 (S5.rowMajor (ix1 k))) = ((hw k : ℝ) : EReal) := by
  fin_cases k
  · exact bits_four
  · exact bits_four
  · exact bits_four
  · exact bits_two
  · exact bits_two

open StableHlo in
/-- The table is laid together from its rows. -/
theorem v42_eq : (V m c main_v42 : FVec Ideal S12x5 .f32)
    = concatenate S12x5 0 [⟨S1x5, (V m c main_v35 : FVec Ideal S1x5 .f32)⟩, ⟨S1x5, (V m c main_v36 : FVec Ideal S1x5 .f32)⟩,
        ⟨S1x5, (V m c main_v0 : FVec Ideal S1x5 .f32)⟩, ⟨S1x5, (V m c main_v1 : FVec Ideal S1x5 .f32)⟩,
        ⟨S4x5, (V m c main_v38 : FVec Ideal S4x5 .f32)⟩, ⟨S4x5, (V m c main_v41 : FVec Ideal S4x5 .f32)⟩]
        concatenates_S1x5_S1x5_S1x5_S1x5_S4x5_S4x5_S12x5_d0 := by
  simp only [V, V0, hostOps0, List.flatten_cons, List.flatten_nil, List.append_nil, after_cons, after_nil]
  rw [nary_result]
  repeat (rw [nary_result_ne]; rotate_left; decide)
  rfl

open StableHlo in
/-- The shift's row. -/
theorem v35_apply (a : Fin 1) (k : Fin 5) : (V m c main_v35 : FVec Ideal S1x5 .f32) (ix2 a k) = shift k := by
  simp only [V, V0, List.flatten_cons, List.flatten_nil, List.append_nil]
  after_results_simp
  pointwise [bits_half, bits_one, bits_two, bits_stretch]
  rw [lit0_apply, width_div, shift]

open StableHlo in
/-- The width's row. -/
theorem v36_apply (a : Fin 1) (k : Fin 5) : (V m c main_v36 : FVec Ideal S1x5 .f32) (ix2 a k) = (width k : EReal) := by
  simp only [V, V0, List.flatten_cons, List.flatten_nil, List.append_nil]
  after_results_simp
  pointwise [bits_one, bits_two, bits_stretch]
  rw [lit0_apply, width_div]

open StableHlo in
/-- The weights' row. -/
theorem v0_apply (a : Fin 1) (k : Fin 5) : (V m c main_v0 : FVec Ideal S1x5 .f32) (ix2 a k) = ((basis k : ℝ) : EReal) := by
  simp only [V, V0, List.flatten_cons, List.flatten_nil, List.append_nil]
  after_results_simp
  pointwise
  rw [lit1_apply]

open StableHlo in
/-- The offsets' row. -/
theorem v1_apply (a : Fin 1) (k : Fin 5) : (V m c main_v1 : FVec Ideal S1x5 .f32) (ix2 a k) = ((hw k * basis k : ℝ) : EReal) := by
  simp only [V, V0, List.flatten_cons, List.flatten_nil, List.append_nil]
  after_results_simp
  pointwise
  rw [lit2_apply]

open StableHlo in
/-- The inverse scales. -/
theorem v38_apply (a : Fin 4) (k : Fin 5) : (V m c main_v38 : FVec Ideal S4x5 .f32) (ix2 a k) = Ideal.div 1 (scale a k) := by
  simp only [V, V0, List.flatten_cons, List.flatten_nil, List.append_nil]
  after_results_simp
  pointwise
  after_results_simp
  pointwise [bits_one, bits_neg_zero, bits_neg_one, bits_neg_two, bits_neg_three]
  rw [lit0_apply]
  fin_vals a with ha
  all_goals simp only [ha, Nat.reduceSub, Nat.reduceLT, ↓reduceDIte, scale_pow]
  all_goals rw [EReal.coe_one]

open StableHlo in
/-- The scales over half the levels. -/
theorem v41_apply (a : Fin 4) (k : Fin 5) : (V m c main_v41 : FVec Ideal S4x5 .f32) (ix2 a k) = Ideal.div (scale a k) (hw k) := by
  simp only [V, V0, List.flatten_cons, List.flatten_nil, List.append_nil]
  after_results_simp
  pointwise
  after_results_simp
  pointwise [bits_one, bits_neg_zero, bits_neg_one, bits_neg_two, bits_neg_three]
  rw [lit0_apply, lit3_apply]
  fin_vals a with ha
  all_goals simp only [ha, Nat.reduceSub, Nat.reduceLT, ↓reduceDIte, scale_pow]

/-- The table, entry by entry. -/
theorem v42_apply (a : Fin 12) (k : Fin 5) : (V m c main_v42 : FVec Ideal S12x5 .f32) (ix2 a k) = consts a k := by
  rw [v42_eq]
  pointwise
  fin_vals a with ha
  all_goals simp only [ha, Nat.reduceSub, Nat.reduceLT, ↓reduceDIte]
  · exact v35_apply m c _ k
  · exact v36_apply m c _ k
  · exact v0_apply m c _ k
  · exact v1_apply m c _ k
  · exact v38_apply m c _ k
  · exact v38_apply m c _ k
  · exact v38_apply m c _ k
  · exact v38_apply m c _ k
  · exact v41_apply m c _ k
  · exact v41_apply m c _ k
  · exact v41_apply m c _ k
  · exact v41_apply m c _ k

open StableHlo in
/-- The launch finds the tokens in one row each. -/
theorem v2_eq : (V m c main_v2 : FVec Ideal S32768x256 .f32)
    = shapeCast S32768x256 (m ((c : Thread nD τ).loc main_arg0)) shapeCasts_S32x1024x256_S32768x256 := by
  simp only [V, V0, List.flatten_cons, List.flatten_nil, List.append_nil]
  after_results_simp
  rfl

open StableHlo in
/-- The first bias as a row. -/
theorem v3_eq : (V m c main_v3 : FVec Ideal S1x5 .f32) = shapeCast S1x5 (m ((c : Thread nD τ).loc main_arg2)) shapeCasts_S5_S1x5 := by
  simp only [V, V0, List.flatten_cons, List.flatten_nil, List.append_nil]
  after_results_simp
  rfl

open StableHlo in
/-- The second bias as a row. -/
theorem v4_eq : (V m c main_v4 : FVec Ideal S1x256 .f32) = shapeCast S1x256 (m ((c : Thread nD τ).loc main_arg4)) shapeCasts_S256_S1x256 := by
  simp only [V, V0, List.flatten_cons, List.flatten_nil, List.append_nil]
  after_results_simp
  rfl

end Cert.KernelIdeal.Host

end
-- ==== Proof.KernelArray.lean ====
/- What the kernel's result arrays hold after a run, entry by entry, as functions of the arguments. -/
module

public import proofs.«01_k».proof.Proof.KernelBlock
public import proofs.«01_k».proof.Proof.Table
public import Idealize.ShloMosaic.Lib.Pipeline.ValueKit

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Host Cert.Fsq

variable (m : (ℓ : Loc nD τ sig) → Buf (Elt Ideal) ℓ) (ρ : Dev nD → PrngReg) (c : Dev nD)

/-- A table that holds the constants entry by entry is the table of constants. -/
theorem tab_eq (x5 : Vec Ideal S12x5 .f32) (h : ∀ (a : Fin 12) (k : Fin 5), x5 (ix2 a k) = consts a k) : tab x5 = consts := by
  funext a k
  unfold tab
  by_cases ha : a < 12
  · rw [dif_pos ha, h]
  · rw [dif_neg ha]
    obtain ⟨b, rfl⟩ := Nat.exists_eq_add_of_le' (Nat.le_of_not_lt ha)
    rfl

/-- The projection of row `r` of the launch's token array. -/
def zOf (r : Fin 32768) : Fin 5 → EReal :=
  zAt (fun d => (V m c main_v2 : FVec Ideal S32768x256 .f32) (ix2 r d))
    (fun d k => (V m c main_arg1 : FVec Ideal S256x5 .f32) (ix2 d k))
    (fun k => (V m c main_v3 : FVec Ideal S1x5 .f32) (ix2 0 k))

/-- The first result array of the launch. -/
def outArr : FVec Ideal S32768x256 .f32 := fun i =>
  outAt consts (zOf m c (i 0)) (fun k => (V m c main_arg3 : FVec Ideal S5x256 .f32) (ix2 k (i 1)))
    ((V m c main_v4 : FVec Ideal S1x256 .f32) (ix2 0 (i 1)))

/-- The second result array of the launch. -/
def idxArr : S32768x4.Idx → BitVec 32 := fun i => indexAt consts (zOf m c (i 0)) (i 1).val

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel

/-- The table's block is the table. -/
theorem blk5 (t : Fin cfg0.N) (a : Fin 12) (k : Fin 5) : iblk m c 5 t (ix2 a k) = consts a k := by
  refine Eq.trans ?_ (v42_apply m c a k)
  blk_simp [iblk, index5 t]
  congr 1
  blk_ext [index5 t]

/-- A token block holds the rows of the token array from its own number on. -/
theorem blk0 (t : Fin cfg0.N) (r : Fin 1024) (R : Fin 32768) (hR : R.val = t.val * 1024 + r.val) (d : Fin 256) :
    iblk m c 0 t (ix2 r d) = (V m c main_v2 : FVec Ideal S32768x256 .f32) (ix2 R d) := by
  blk_simp [iblk, index0 t]
  congr 1
  blk_ext [index0 t]

/-- The first matrix's block is the matrix. -/
theorem blk1 (t : Fin cfg0.N) (d : Fin 256) (k : Fin 5) :
    iblk m c 1 t (ix2 d k) = (V m c main_arg1 : FVec Ideal S256x5 .f32) (ix2 d k) := by
  blk_simp [iblk, index1 t]
  congr 1
  blk_ext [index1 t]

/-- The first bias's block is the bias. -/
theorem blk2 (t : Fin cfg0.N) (a : Fin 1) (k : Fin 5) :
    iblk m c 2 t (ix2 a k) = (V m c main_v3 : FVec Ideal S1x5 .f32) (ix2 a k) := by
  blk_simp [iblk, index2 t]
  congr 1
  blk_ext [index2 t]

/-- The second matrix's block is the matrix. -/
theorem blk3 (t : Fin cfg0.N) (k : Fin 5) (n : Fin 256) :
    iblk m c 3 t (ix2 k n) = (V m c main_arg3 : FVec Ideal S5x256 .f32) (ix2 k n) := by
  blk_simp [iblk, index3 t]
  congr 1
  blk_ext [index3 t]

/-- The second bias's block is the bias. -/
theorem blk4 (t : Fin cfg0.N) (a : Fin 1) (n : Fin 256) :
    iblk m c 4 t (ix2 a n) = (V m c main_v4 : FVec Ideal S1x256 .f32) (ix2 a n) := by
  blk_simp [iblk, index4 t]
  congr 1
  blk_ext [index4 t]

/-- So the projection of a block's row is the projection of the array's. -/
theorem zRow_eq (t : Fin cfg0.N) (r : Fin 1024) (R : Fin 32768) (hR : R.val = t.val * 1024 + r.val) :
    zRow (iblk m c 0 t) (iblk m c 1 t) (iblk m c 2 t) r = zOf m c R := by
  funext k
  unfold zRow zOf zAt
  simp only [blk0 m c t r R hR, blk1, blk2]

/-- The launch's first result array. -/
theorem out_final : (dats m 0 c).arrAt 6 cfg0.N = outArr m c := by
  refine (dats m 0 c).arrAt_eq_of_covers 6 _ (by decide +kernel) fun t hf y => ?_
  blk_simp
  rw [after0_6]
  obtain ⟨r, n, rfl⟩ : ∃ (r : Fin 1024) (n : Fin 256), y = ix2 r n :=
    ⟨y 0, y 1, by funext a; fin_cases a <;> rfl⟩
  refine (out6_apply _ _ _ _ _ _ r n).trans ?_
  rw [tab_eq _ (blk5 m c t)]
  unfold outArr
  rw [zRow_eq m c t r ((win0_6.blk t).view.emb (ix2 r n) 0) (by blk_simp [index6 t])]
  have hn : (win0_6.blk t).view.emb (ix2 r n) 1 = n := Fin.ext (by blk_simp [index6 t])
  rw [hn]
  simp only [blk3, blk4]

/-- The launch's second result array. -/
theorem idx_final : (dats m 0 c).arrAt 7 cfg0.N = idxArr m c := by
  refine (dats m 0 c).arrAt_eq_of_covers 7 _ (by decide +kernel) fun t hf y => ?_
  blk_simp
  rw [after0_7]
  obtain ⟨r, j, rfl⟩ : ∃ (r : Fin 1024) (j : Fin 4), y = ix2 r j :=
    ⟨y 0, y 1, by funext a; fin_cases a <;> rfl⟩
  refine (out7_apply _ _ _ _ _ _ r j).trans ?_
  rw [tab_eq _ (blk5 m c t)]
  unfold idxArr
  rw [zRow_eq m c t r ((win0_7.blk t).view.emb (ix2 r j) 0) (by blk_simp [index7 t])]
  have hn : (win0_7.blk t).view.emb (ix2 r j) 1 = j := Fin.ext (by blk_simp [index7 t])
  rw [hn]

end Cert.KernelIdeal.Array

end
-- ==== Proof.Spec.lean ====
/- The two results as functions of the five arguments: what both programs are shown to compute. -/
module

public import proofs.«01_k».proof.Proof.Consts
public import Idealize.ShloMosaic.Lib.Pointwise.Index

@[expose] public section

noncomputable section

namespace Cert.Fsq

open Idealize.ShloMosaic

/-- The projection of token `n` of batch `b`. -/
def tokenZ (x : Vec Ideal ⟨3, ![32, 1024, 256]⟩ .f32) (W : Vec Ideal ⟨2, ![256, 5]⟩ .f32) (b : Vec Ideal ⟨1, ![5]⟩ .f32)
    (i : Fin 32) (n : Fin 1024) : Fin 5 → EReal :=
  zAt (fun d => x (ix3 i n d)) (fun d k => W (ix2 d k)) (fun k => b (ix1 k))

/-- The first result: every token projected, quantized four times and projected back. -/
def quantized (x : Vec Ideal ⟨3, ![32, 1024, 256]⟩ .f32) (W : Vec Ideal ⟨2, ![256, 5]⟩ .f32) (b : Vec Ideal ⟨1, ![5]⟩ .f32)
    (W' : Vec Ideal ⟨2, ![5, 256]⟩ .f32) (b' : Vec Ideal ⟨1, ![256]⟩ .f32) : Vec Ideal ⟨3, ![32, 1024, 256]⟩ .f32 :=
  fun j => outAt consts (tokenZ x W b (j 0) (j 1)) (fun k => W' (ix2 k (j 2))) (b' (ix1 (j 2)))

/-- The second result: the index of every token at every quantizer. -/
def indices (x : Vec Ideal ⟨3, ![32, 1024, 256]⟩ .f32) (W : Vec Ideal ⟨2, ![256, 5]⟩ .f32) (b : Vec Ideal ⟨1, ![5]⟩ .f32) :
    Vec Ideal ⟨3, ![32, 1024, 4]⟩ .i32 :=
  fun j => indexAt consts (tokenZ x W b (j 0) (j 1)) (j 2).val

end Cert.Fsq

end
-- ==== Proof.KernelRun.lean ====
/- The kernel's run: both results as functions of the arguments, the arguments unchanged. -/
module

public import proofs.«01_k».proof.Proof.KernelArray
public import proofs.«01_k».proof.Proof.Spec

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Host Cert.Fsq

variable (m : (ℓ : Loc nD τ sig) → Buf (Elt Ideal) ℓ) (ρ : Dev nD → PrngReg) (c : Dev nD)

/-- Laying batches of tokens in rows: row `R` is the token at that place. -/
theorem rows_apply {α : Type} {D : ℕ} (x : (⟨3, ![32, 1024, D]⟩ : Shape).Idx → α) (h : (⟨3, ![32, 1024, D]⟩ : Shape).ShapeCasts ⟨2, ![32768, D]⟩)
    (b : Fin 32) (n : Fin 1024) (R : Fin 32768) (hR : R.val = b.val * 1024 + n.val) (d : Fin D) :
    shapeCast ⟨2, ![32768, D]⟩ x h (ix2 R d) = x (ix3 b n d) := by
  refine shapeCast_apply _ _ _ _ ?_
  rw [rowMajor_val3 _ (1024 * D) D rfl rfl, rowMajor_val2 _ D rfl]
  show b.val * (1024 * D) + n.val * D + d.val = R.val * D + d.val
  rw [hR]; ring

/-- Laying rows in batches of tokens: the token is the row at that place. -/
theorem batches_apply {α : Type} {D : ℕ} (x : (⟨2, ![32768, D]⟩ : Shape).Idx → α) (h : (⟨2, ![32768, D]⟩ : Shape).ShapeCasts ⟨3, ![32, 1024, D]⟩)
    (b : Fin 32) (n : Fin 1024) (R : Fin 32768) (hR : R.val = b.val * 1024 + n.val) (d : Fin D) :
    shapeCast ⟨3, ![32, 1024, D]⟩ x h (ix3 b n d) = x (ix2 R d) := by
  refine shapeCast_apply _ _ _ _ ?_
  rw [rowMajor_val3 _ (1024 * D) D rfl rfl, rowMajor_val2 _ D rfl]
  show R.val * D + d.val = b.val * (1024 * D) + n.val * D + d.val
  rw [hR]; ring

/-- A vector as a row. -/
theorem row_apply {α : Type} {D : ℕ} (x : (⟨1, ![D]⟩ : Shape).Idx → α) (h : (⟨1, ![D]⟩ : Shape).ShapeCasts ⟨2, ![1, D]⟩)
    (d : Fin D) : shapeCast ⟨2, ![1, D]⟩ x h (ix2 0 d) = x (ix1 d) := by
  refine shapeCast_apply _ _ _ _ ?_
  rw [rowMajor_val1, rowMajor_val2 _ D rfl]
  show d.val = 0 * D + d.val
  omega

/-- The row of the launch's token array that holds token `n` of batch `b` is projected to the token's projection. -/
theorem zOf_eq (b : Fin 32) (n : Fin 1024) (R : Fin 32768) (hR : R.val = b.val * 1024 + n.val) :
    zOf m c R = tokenZ (m ((c : Thread nD τ).loc main_arg0)) (m ((c : Thread nD τ).loc main_arg1))
      (m ((c : Thread nD τ).loc main_arg2)) b n := by
  have h0 : ∀ d, (V m c main_v2 : FVec Ideal S32768x256 .f32) (ix2 R d) = m ((c : Thread nD τ).loc main_arg0) (ix3 b n d) := fun d => by
    rw [v2_eq]
    exact rows_apply _ _ b n R hR d
  have h2 : ∀ k, (V m c main_v3 : FVec Ideal S1x5 .f32) (ix2 0 k) = m ((c : Thread nD τ).loc main_arg2) (ix1 k) := fun k => by
    rw [v3_eq]
    exact row_apply _ _ k
  unfold zOf tokenZ
  rw [V_main_arg1]
  simp only [h0, h2]

open StableHlo in
/-- The host part after the launch hands on the first result array in batches. -/
theorem tail_out : Pipeline.afterTail₀ cfgs (dats m) 0 (V0 m) [hostOps1] c main_v44
    = quantized (m ((c : Thread nD τ).loc main_arg0)) (m ((c : Thread nD τ).loc main_arg1))
      (m ((c : Thread nD τ).loc main_arg2)) (m ((c : Thread nD τ).loc main_arg3)) (m ((c : Thread nD τ).loc main_arg4)) := by
  unfold Pipeline.afterTail₀
  simp only [List.flatten_cons, List.flatten_nil, List.append_nil]
  after_results_simp
  have e : Pipeline.withArrays (cfgs 0).spec c (V0 m c) (fun w => (dats m 0 c).arrAt w (cfgs 0).N) (Proc.tc.devRef main_v43_0)
      = outArr m c :=
    (Pipeline.withArrays_arr (cfgs 0).spec launch0.win.arr_inj c (V0 m c) (fun w => (dats m 0 c).arrAt w (cfgs 0).N) 6).trans (out_final m c)
  rw [e]
  funext j
  obtain ⟨b, n, d, rfl⟩ : ∃ (b : Fin 32) (n : Fin 1024) (d : Fin 256), j = ix3 b n d :=
    ⟨j 0, j 1, j 2, by funext a; fin_cases a <;> rfl⟩
  have hR : b.val * 1024 + n.val < 32768 := by omega
  refine (batches_apply (D := 256) (outArr m c) _ b n ⟨_, hR⟩ rfl d).trans ?_
  show outAt consts (zOf m c ⟨_, hR⟩) (fun k => (V m c main_arg3 : FVec Ideal S5x256 .f32) (ix2 k d))
    ((V m c main_v4 : FVec Ideal S1x256 .f32) (ix2 0 d)) = _
  rw [zOf_eq m c b n _ rfl, V_main_arg3, v4_eq]
  exact congrArg (outAt _ _ _) (row_apply _ _ d)

open StableHlo in
/-- … and the second. -/
theorem tail_idx : Pipeline.afterTail₀ cfgs (dats m) 0 (V0 m) [hostOps1] c main_v45
    = indices (m ((c : Thread nD τ).loc main_arg0)) (m ((c : Thread nD τ).loc main_arg1)) (m ((c : Thread nD τ).loc main_arg2)) := by
  unfold Pipeline.afterTail₀
  simp only [List.flatten_cons, List.flatten_nil, List.append_nil]
  after_results_simp
  have e : Pipeline.withArrays (cfgs 0).spec c (V0 m c) (fun w => (dats m 0 c).arrAt w (cfgs 0).N) (Proc.tc.devRef main_v43_1)
      = idxArr m c :=
    (Pipeline.withArrays_arr (cfgs 0).spec launch0.win.arr_inj c (V0 m c) (fun w => (dats m 0 c).arrAt w (cfgs 0).N) 7).trans (idx_final m c)
  rw [e]
  funext j
  obtain ⟨b, n, i, rfl⟩ : ∃ (b : Fin 32) (n : Fin 1024) (i : Fin 4), j = ix3 b n i :=
    ⟨j 0, j 1, j 2, by funext a; fin_cases a <;> rfl⟩
  have hR : b.val * 1024 + n.val < 32768 := by omega
  refine (batches_apply (D := 4) (idxArr m c) _ b n ⟨_, hR⟩ rfl i).trans ?_
  show indexAt consts (zOf m c ⟨_, hR⟩) i.val = _
  rw [zOf_eq m c b n _ rfl]
  rfl

/-- The kernel's run: both results as functions of the arguments, the arguments unchanged. -/
theorem run : θ_run defs (onTc (τ := τ) (main (F := Ideal))) ⟨m, fun _ => 0, ρ⟩ fun r => ∀ c : Dev nD,
      r.2.mem ((c.tc : Thread nD τ).loc main_v44)
        = quantized (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_v45)
        = indices (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v44 (Pipeline.mem_restRefs_of main_v44 (by decide) (by decide))).trans (tail_out m c),
      ((h c).2 main_v45 (Pipeline.mem_restRefs_of main_v45 (by decide) (by decide))).trans (tail_idx m c),
      ((h c).2 main_arg0 (Pipeline.mem_restRefs_of main_arg0 (by decide) (by decide))).trans (W_main_arg0 m _ c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m _ c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m _ c)⟩)
    (run_main m ρ)

end Cert.KernelIdeal.Array

end
-- ==== Proof.RefConsts.lean ====
/- The reference's constants: levels, weights, scales, widths, offsets and half widths are the real numbers of Consts.lean. -/
module

public import proofs.«01_k».proof.Proof.Consts
public import proofs.«01_k».proof.Proof.Gen.ReferenceIdeal.Run
public import Idealize.ShloMosaic.Lib.Pointwise

@[expose] public section

noncomputable section

namespace Cert.ReferenceIdeal.Read

open Idealize.ShloMosaic Idealize.ShloMosaic.StableHlo Cert.ReferenceIdeal Cert.ReferenceIdeal.Gen Cert.ReferenceIdeal.Value Cert.Fsq

variable (V0 : Valuation τ sig (Elt Ideal))

theorem bits_zero : Ideal.ofBits .f32 0x00000000#32 = 0 := by
  simp [Ideal.ofBits, Ideal.ieee, -EReal.coe_mul]

/-- The levels' numbers. -/
theorem levels_apply (k : Fin 5) : (res_main_cst V0 : FVec Ideal S5 .f32) (ix1 k) = ((lev k : ℝ) : EReal) := by
  show Ideal.ofBits .f32 (lit0 (S5.rowMajor (ix1 k))) = _
  fin_cases k
  · exact bits_eight
  · exact bits_eight
  · exact bits_eight
  · exact bits_four
  · exact bits_four

/-- The weights. -/
theorem weights_apply (k : Fin 5) : Ideal.ofBits .f32 (lit1 (S5.rowMajor (ix1 k))) = ((basis k : ℝ) : EReal) := by
  fin_cases k
  · exact bits_one
  · exact bits_eight
  · show Ideal.ofBits .f32 0x42800000#32 = ((64 : ℝ) : EReal)
    simp [Ideal.ofBits, Ideal.ieee, -EReal.coe_mul]; norm_num
  · show Ideal.ofBits .f32 0x44000000#32 = ((512 : ℝ) : EReal)
    simp [Ideal.ofBits, Ideal.ieee, -EReal.coe_mul]; norm_num
  · show Ideal.ofBits .f32 0x45000000#32 = ((2048 : ℝ) : EReal)
    simp [Ideal.ofBits, Ideal.ieee, -EReal.coe_mul]; norm_num

/-- The scales, quantizer by quantizer. -/
theorem scales_apply (a : Fin 4) (k : Fin 5) : (res_main_v24 V0 : FVec Ideal S4x5 .f32) (ix2 a k) = (scale a k : EReal) := by
  unfold res_main_v24
  pointwise [bits_one, bits_neg_zero, bits_neg_one, bits_neg_two, bits_neg_three]
  rw [levels_apply]
  fin_vals a with ha
  all_goals simp only [ha, Nat.reduceSub, Nat.reduceLT, ↓reduceDIte, scale_pow]

/-- The scale of the first quantizer, … -/
theorem scale0_apply (k : Fin 5) : (res_main_v27 V0 : FVec Ideal S5 .f32) (ix1 k) = (scale 0 k : EReal) := by
  unfold res_main_v27
  pointwise
  exact scales_apply V0 0 k

/-- … of the second, … -/
theorem scale1_apply (k : Fin 5) : (res_main_v84 V0 : FVec Ideal S5 .f32) (ix1 k) = (scale 1 k : EReal) := by
  unfold res_main_v84
  pointwise
  exact scales_apply V0 1 k

/-- … of the third … -/
theorem scale2_apply (k : Fin 5) : (res_main_v141 V0 : FVec Ideal S5 .f32) (ix1 k) = (scale 2 k : EReal) := by
  unfold res_main_v141
  pointwise
  exact scales_apply V0 2 k

/-- … and of the fourth. -/
theorem scale3_apply (k : Fin 5) : (res_main_v198 V0 : FVec Ideal S5 .f32) (ix1 k) = (scale 3 k : EReal) := by
  unfold res_main_v198
  pointwise
  exact scales_apply V0 3 k

/-- The widths. -/
theorem width_apply (k : Fin 5) : (res_main_v39 V0 : FVec Ideal S5 .f32) (ix1 k) = (width k : EReal) := by
  unfold res_main_v39
  pointwise [bits_one, bits_two, bits_stretch]
  rw [levels_apply, width_div]

/-- Half the levels. -/
theorem halfLevels_apply (k : Fin 5) : (res_main_v66 V0 : FVec Ideal S5 .f32) (ix1 k) = (hw k : EReal) := by
  unfold res_main_v66
  pointwise [bits_two]
  rw [levels_apply, Ideal.div_coe two_ne_zero, ← EReal.coe_mul, Ideal.liftRound_coe, floor_half]

/-- Every number of levels is even. -/
theorem rem_apply (k : Fin 5) : (res_main_call0_v2 V0 : FVec Ideal S5 .f32) (ix1 k) = (0 : EReal) := by
  unfold res_main_call0_v2 res_main_call0_v0
  pointwise
  rw [levels_apply]
  show Ideal.remf _ (Ideal.ofBits .f32 0x40000000#32) = _
  rw [bits_two, Ideal.remf_coe, if_neg two_ne_zero, Ideal.truncInt]
  fin_cases k <;> norm_num [lev]

/-- What is picked where a remainder is zero. -/
theorem pick_zero (p : BitVec 1) (y t : EReal) :
    (if Scalar.select (IntOp.andi p (BitVec.ofBool (decide ((0 : EReal) ≠ 0)))) y (0 : EReal) = 0 then t else 0) = t := by
  simp [IntOp.andi, Scalar.select]

/-- So the offset is one half. -/
theorem offset_apply (k : Fin 5) : (res_main_v43 V0 : FVec Ideal S5 .f32) (ix1 k) = half := by
  unfold res_main_v43 res_main_call0_v0
  pointwise [bits_two, bits_zero, bits_half]
  rw [rem_apply]
  exact pick_zero _ _ _

end Cert.ReferenceIdeal.Read

end
-- ==== Proof.RefStage.lean ====
/- One quantizer of the reference, operation by operation, on any residual: what its stages hold entry by entry, as the
   numbers of Level.lean. -/
module

public import proofs.«01_k».proof.Proof.RefConsts

@[expose] public section

noncomputable section

namespace Cert.ReferenceIdeal.Read

open Idealize.ShloMosaic Idealize.ShloMosaic.StableHlo Cert.ReferenceIdeal Cert.ReferenceIdeal.Gen Cert.ReferenceIdeal.Value Cert.Fsq

/-- A row of five laid over all tokens. -/
def over (s : FVec Ideal S5 .f32) : FVec Ideal S32x1024x5 .f32 :=
  broadcastInDim S32x1024x5 ![0, 1, 2] bcast_S1x1x5_S32x1024x5_0_1_2 (broadcastInDim S1x1x5 ![2] bcast_S5_S1x1x5_2 s)

/-- The bounded residual: scaled, shifted, squashed to the width and moved down by the offset. -/
def bounded (r : FVec Ideal S32x1024x5 .f32) (s h o : FVec Ideal S5 .f32) : FVec Ideal S32x1024x5 .f32 :=
  subf (mulf (Host.tanh (addf (Host.divf r (over s)) (over (Host.atanh (Host.divf o h))))) (over h)) (over o)

/-- The bounded residual plus what is missing to its rounding, over half the levels. -/
def coded (b : FVec Ideal S32x1024x5 .f32) (w : FVec Ideal S5 .f32) : FVec Ideal S32x1024x5 .f32 :=
  Host.divf (addf b (subf (Host.roundeven b) b)) (over w)

/-- The codes brought back to whole numbers from zero up, weighted and summed. -/
def summed (q : FVec Ideal S32x1024x5 .f32) (w B : FVec Ideal S5 .f32) : IVec S32x1024x1 32 :=
  broadcastInDim S32x1024x1 ![0, 1] bcast_S32x1024_S32x1024x1_0_1
    (fptosi 32 (Host.reduceAdd (mulf (addf (mulf q (over w)) (over w)) (over B)) (constant S_ .f32 0x00000000#32) reducesTo_S32x1024x5_S32x1024_d2 h_S_))

theorem over_apply (s : FVec Ideal S5 .f32) (b : Fin 32) (n : Fin 1024) (k : Fin 5) : over s (ix3 b n k) = s (ix1 k) := by
  unfold over
  pointwise

variable {r : FVec Ideal S32x1024x5 .f32} {s h o w B : FVec Ideal S5 .f32} {i : ℕ} {b : Fin 32} {n : Fin 1024} {z : Fin 5 → EReal}

/-- The bounded residual is the number that is rounded. -/
theorem bounded_apply (hi : i < 4) (hs : ∀ k, s (ix1 k) = (scale i k : EReal)) (hh : ∀ k, h (ix1 k) = (width k : EReal))
    (ho : ∀ k, o (ix1 k) = half) (hr : ∀ k, r (ix3 b n k) = resid consts k (z k) i) (k : Fin 5) :
    bounded r s h o (ix3 b n k)
      = Ideal.tanh (resid consts k (z k) i * consts (4 + i) k + consts 0 k) * (width k : EReal) - half := by
  have e : consts (4 + i) k = Ideal.div 1 (scale i k : EReal) := by
    interval_cases i <;> rfl
  unfold bounded
  pointwise
  rw [over_apply, over_apply, over_apply, over_apply, hh, ho, hr, hs, div_scale (scale_ne_zero i k), e]
  pointwise
  rw [hh, ho]
  rfl

/-- The code is the whole number over half the levels. -/
theorem coded_apply (hi : i < 4) (hs : ∀ k, s (ix1 k) = (scale i k : EReal)) (hh : ∀ k, h (ix1 k) = (width k : EReal))
    (ho : ∀ k, o (ix1 k) = half) (hw' : ∀ k, w (ix1 k) = (hw k : EReal))
    (hr : ∀ k, r (ix3 b n k) = resid consts k (z k) i) (k : Fin 5) :
    coded (bounded r s h o) w (ix3 b n k) = Ideal.div (level consts k (z k) i) (hw k : EReal) := by
  unfold coded
  pointwise
  rw [over_apply, hw', bounded_apply hi hs hh ho hr, add_round_sub]
  rfl

/-- The code times the scale is the quantized value. -/
theorem scaled_apply (hi : i < 4) (hs : ∀ k, s (ix1 k) = (scale i k : EReal)) {q : FVec Ideal S32x1024x5 .f32}
    (hq : ∀ k, q (ix3 b n k) = Ideal.div (level consts k (z k) i) (hw k : EReal)) (k : Fin 5) :
    mulf q (over s) (ix3 b n k) = level consts k (z k) i * consts (8 + i) k := by
  have e : consts (8 + i) k = Ideal.div (scale i k : EReal) (hw k : EReal) := by
    interval_cases i <;> rfl
  pointwise
  rw [over_apply, hs, hq, e]
  exact quant_eq _ _ _ _ (hw_ne_zero k)

/-- The weighted sum of the codes is the index. -/
theorem summed_apply (hw' : ∀ k, w (ix1 k) = (hw k : EReal)) (hB : ∀ k, B (ix1 k) = (basis k : EReal))
    {q : FVec Ideal S32x1024x5 .f32} (hq : ∀ k, q (ix3 b n k) = Ideal.div (level consts k (z k) i) (hw k : EReal)) (a : Fin 1) :
    summed q w B (ix3 b n a) = indexAt consts z i := by
  unfold summed
  pointwise [bits_zero]
  unfold indexAt
  simp only [over_apply, hw', hB, hq]
  refine congrArg (Ideal.fptosi 32) ?_
  refine Finset.sum_congr rfl fun k _ => ?_
  exact scaled_eq _ _ _ _ (hw_ne_zero k) _

end Cert.ReferenceIdeal.Read

end
-- ==== Proof.RefRun.lean ====
/- The reference's results as functions of its arguments: its four quantizers one after the other, then the two results. -/
module

public import proofs.«01_k».proof.Proof.RefStage
public import proofs.«01_k».proof.Proof.Spec

@[expose] public section

noncomputable section

namespace Cert.ReferenceIdeal.Read

open Idealize.SL.Sem
open Idealize.ShloMosaic Idealize.ShloMosaic.TcCoe Idealize.ShloMosaic.StableHlo
open Cert.ReferenceIdeal Cert.ReferenceIdeal.Gen Cert.ReferenceIdeal.Value Cert.Fsq

variable (V0 : Valuation τ sig (Elt Ideal)) (b : Fin 32) (n : Fin 1024)

/-- The projection of one token, by the valuation's first three arguments. -/
def zRef : Fin 5 → EReal :=
  tokenZ (V0 (Proc.devRef .tc main_arg0)) (V0 (Proc.devRef .tc main_arg1)) (V0 (Proc.devRef .tc main_arg2)) b n

/-- The first residual is the projection. -/
theorem resid0 (k : Fin 5) : (res_main_v3 V0 : FVec Ideal S32x1024x5 .f32) (ix3 b n k) = resid consts k (zRef V0 b n k) 0 := by
  unfold res_main_v3
  pointwise [dot_S32x1024x256_S256x5_S32x1024x5_2_0_01_1_n_n]
  rfl

/-- The first quantizer's codes, … -/
theorem codes0 (k : Fin 5) : (res_main_v63 V0 : FVec Ideal S32x1024x5 .f32) (ix3 b n k)
    = Ideal.div (level consts k (zRef V0 b n k) 0) (hw k : EReal) :=
  coded_apply (r := res_main_v3 V0) (s := res_main_v27 V0) (h := res_main_v39 V0) (o := res_main_v43 V0) (w := res_main_v66 V0)
    (by decide) (scale0_apply V0) (width_apply V0) (offset_apply V0) (halfLevels_apply V0) (resid0 V0 b n) k

/-- … its quantized values … -/
theorem quant0 (k : Fin 5) : (res_main_v80 V0 : FVec Ideal S32x1024x5 .f32) (ix3 b n k)
    = level consts k (zRef V0 b n k) 0 * consts 8 k :=
  scaled_apply (s := res_main_v27 V0) (q := res_main_v63 V0) (by decide) (scale0_apply V0) (codes0 V0 b n) k

/-- … and the residual it leaves. -/
theorem resid1 (k : Fin 5) : (res_main_v81 V0 : FVec Ideal S32x1024x5 .f32) (ix3 b n k) = resid consts k (zRef V0 b n k) 1 := by
  unfold res_main_v81
  pointwise
  rw [resid0, quant0]
  rfl

/-- The second quantizer's codes, … -/
theorem codes1 (k : Fin 5) : (res_main_v120 V0 : FVec Ideal S32x1024x5 .f32) (ix3 b n k)
    = Ideal.div (level consts k (zRef V0 b n k) 1) (hw k : EReal) :=
  coded_apply (r := res_main_v81 V0) (s := res_main_v84 V0) (h := res_main_v39 V0) (o := res_main_v43 V0) (w := res_main_v66 V0)
    (by decide) (scale1_apply V0) (width_apply V0) (offset_apply V0) (halfLevels_apply V0) (resid1 V0 b n) k

/-- … its quantized values … -/
theorem quant1 (k : Fin 5) : (res_main_v137 V0 : FVec Ideal S32x1024x5 .f32) (ix3 b n k)
    = level consts k (zRef V0 b n k) 1 * consts 9 k :=
  scaled_apply (s := res_main_v84 V0) (q := res_main_v120 V0) (by decide) (scale1_apply V0) (codes1 V0 b n) k

/-- … and the residual it leaves. -/
theorem resid2 (k : Fin 5) : (res_main_v138 V0 : FVec Ideal S32x1024x5 .f32) (ix3 b n k) = resid consts k (zRef V0 b n k) 2 := by
  unfold res_main_v138
  pointwise
  rw [resid1, quant1]
  rfl

/-- The third quantizer's codes, … -/
theorem codes2 (k : Fin 5) : (res_main_v177 V0 : FVec Ideal S32x1024x5 .f32) (ix3 b n k)
    = Ideal.div (level consts k (zRef V0 b n k) 2) (hw k : EReal) :=
  coded_apply (r := res_main_v138 V0) (s := res_main_v141 V0) (h := res_main_v39 V0) (o := res_main_v43 V0) (w := res_main_v66 V0)
    (by decide) (scale2_apply V0) (width_apply V0) (offset_apply V0) (halfLevels_apply V0) (resid2 V0 b n) k

/-- … its quantized values … -/
theorem quant2 (k : Fin 5) : (res_main_v194 V0 : FVec Ideal S32x1024x5 .f32) (ix3 b n k)
    = level consts k (zRef V0 b n k) 2 * consts 10 k :=
  scaled_apply (s := res_main_v141 V0) (q := res_main_v177 V0) (by decide) (scale2_apply V0) (codes2 V0 b n) k

/-- … and the residual it leaves. -/
theorem resid3 (k : Fin 5) : (res_main_v195 V0 : FVec Ideal S32x1024x5 .f32) (ix3 b n k) = resid consts k (zRef V0 b n k) 3 := by
  unfold res_main_v195
  pointwise
  rw [resid2, quant2]
  rfl

/-- The fourth quantizer's codes … -/
theorem codes3 (k : Fin 5) : (res_main_v234 V0 : FVec Ideal S32x1024x5 .f32) (ix3 b n k)
    = Ideal.div (level consts k (zRef V0 b n k) 3) (hw k : EReal) :=
  coded_apply (r := res_main_v195 V0) (s := res_main_v198 V0) (h := res_main_v39 V0) (o := res_main_v43 V0) (w := res_main_v66 V0)
    (by decide) (scale3_apply V0) (width_apply V0) (offset_apply V0) (halfLevels_apply V0) (resid3 V0 b n) k

/-- … and its quantized values. -/
theorem quant3 (k : Fin 5) : (res_main_v251 V0 : FVec Ideal S32x1024x5 .f32) (ix3 b n k)
    = level consts k (zRef V0 b n k) 3 * consts 11 k :=
  scaled_apply (s := res_main_v198 V0) (q := res_main_v234 V0) (by decide) (scale3_apply V0) (codes3 V0 b n) k

/-- The first result, entry by entry: the four quantized values summed and projected back. -/
theorem out_apply (d : Fin 256) :
    (addf (Host.dotGeneral (φ₂ := .f32) dot_S32x1024x5_S5x256_S32x1024x256_2_0_01_1_n_n none (addf (addf (addf (addf (broadcastInDim S32x1024x5 ![] bcast_S_S32x1024x5 (constant S_ .f32 0x00000000#32)) (res_main_v80 V0)) (res_main_v137 V0)) (res_main_v194 V0)) (res_main_v251 V0)) (V0 (Proc.devRef .tc main_arg3))) (broadcastInDim S32x1024x256 ![0, 1, 2] bcast_S1x1x256_S32x1024x256_0_1_2 (broadcastInDim S1x1x256 ![2] bcast_S256_S1x1x256_2 (V0 (Proc.devRef .tc main_arg4))))
      : FVec Ideal S32x1024x256 .f32) (ix3 b n d)
    = quantized (V0 (Proc.devRef .tc main_arg0)) (V0 (Proc.devRef .tc main_arg1)) (V0 (Proc.devRef .tc main_arg2))
        (V0 (Proc.devRef .tc main_arg3)) (V0 (Proc.devRef .tc main_arg4)) (ix3 b n d) := by
  pointwise [dot_S32x1024x5_S5x256_S32x1024x256_2_0_01_1_n_n, bits_zero]
  simp only [quant0, quant1, quant2, quant3, zero_add]
  rfl

/-- The weights as an array. -/
def weights : FVec Ideal S5 .f32 := fun i => Ideal.ofBits .f32 (lit1 (S5.rowMajor i))

/-- The indices of the four quantizers, side by side. -/
theorem idx_apply (i : Fin 4) :
    (concatenate S32x1024x4 2 [⟨S32x1024x1, summed (res_main_v63 V0) (res_main_v66 V0) weights⟩,
        ⟨S32x1024x1, summed (res_main_v120 V0) (res_main_v66 V0) weights⟩, ⟨S32x1024x1, summed (res_main_v177 V0) (res_main_v66 V0) weights⟩,
        ⟨S32x1024x1, summed (res_main_v234 V0) (res_main_v66 V0) weights⟩]
        concatenates_S32x1024x1_S32x1024x1_S32x1024x1_S32x1024x1_S32x1024x4_d2 : IVec S32x1024x4 32) (ix3 b n i)
    = indices (V0 (Proc.devRef .tc main_arg0)) (V0 (Proc.devRef .tc main_arg1)) (V0 (Proc.devRef .tc main_arg2)) (ix3 b n i) := by
  show _ = indexAt consts (zRef V0 b n) i.val
  pointwise
  fin_vals i with hi
  all_goals simp only [hi, Nat.reduceSub, Nat.reduceLT, ↓reduceDIte]
  · exact summed_apply (halfLevels_apply V0) weights_apply (codes0 V0 b n) _
  · exact summed_apply (halfLevels_apply V0) weights_apply (codes1 V0 b n) _
  · exact summed_apply (halfLevels_apply V0) weights_apply (codes2 V0 b n) _
  · exact summed_apply (halfLevels_apply V0) weights_apply (codes3 V0 b n) _

variable (m : (ℓ : Loc nD τ sig) → Buf (Elt Ideal) ℓ) (ρ : Dev nD → PrngReg)

/-- The reference's run: both results as functions of the arguments, the arguments unchanged. -/
theorem run : θ_run defs (onTc (τ := τ) (main (F := Ideal))) ⟨m, fun _ => 0, ρ⟩ fun r => ∀ c : Dev nD,
      r.2.mem ((c.tc : Thread nD τ).loc main_v257)
        = quantized (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v262)
        = indices (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run (F := Ideal) m ρ)
  · funext j
    obtain ⟨b, n, d, rfl⟩ : ∃ (b : Fin 32) (n : Fin 1024) (d : Fin 256), j = ix3 b n d :=
      ⟨j 0, j 1, j 2, by funext a; fin_cases a <;> rfl⟩
    exact out_apply (launchContents m c) b n d
  · funext j
    obtain ⟨b, n, i, rfl⟩ : ∃ (b : Fin 32) (n : Fin 1024) (i : Fin 4), j = ix3 b n i :=
      ⟨j 0, j 1, j 2, by funext a; fin_cases a <;> rfl⟩
    exact idx_apply (launchContents m c) b n i

end Cert.ReferenceIdeal.Read

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Fsq

/-- The reference runs, leaves its arguments alone and ends with every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Read.run m ρ)

/-- From the same arguments the kernel and the reference end with the same two results: both hold the quantized tokens
    and the indices of Spec.lean. -/
theorem values : Cert.algebraic_KernelIdeal_ReferenceIdeal (hKernelIdeal := Cert.KernelIdeal.Gen.facts)
    (hReferenceIdeal := Cert.ReferenceIdeal.Gen.facts) := by
  intro m ρ m' ρ' _ hagree
  refine ⟨_, _, Cert.KernelIdeal.Array.run m ρ, ?_⟩
  refine (θ_run Cert.ReferenceIdeal.defs _ _).mono (fun r h c => ⟨(h c).1.trans ?_, (h c).2.1.trans ?_, (h c).2.2⟩)
    (Cert.ReferenceIdeal.Read.run m' ρ')
  · obtain ⟨h0, h1, h2, h3, h4⟩ := hagree c
    rw [h0, h1, h2, h3, h4]
  · obtain ⟨h0, h1, h2, -, -⟩ := hagree c
    rw [h0, h1, h2]

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, values⟩

end Cert.Proof

end
